-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "ten_by_ln10" .f32 0x408AF967#32 ((10 * (Real.log 10)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v394) = v0 c
          ∧ r.2.mem ((c.tc : Thread Cert.ReferenceIdeal.nD Cert.ReferenceIdeal.τ).loc Cert.ReferenceIdeal.main_v386) = v1 c
          ∧ r.2.mem ((c.tc : Thread Cert.ReferenceIdeal.nD Cert.ReferenceIdeal.τ).loc Cert.ReferenceIdeal.main_v366) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x2048x2048 : Shape := ⟨4, ![4, 1, 2048, 2048]⟩
abbrev S1408x144 : Shape := ⟨2, ![1408, 144]⟩
abbrev S4x2048x2048 : Shape := ⟨3, ![4, 2048, 2048]⟩
abbrev S4x16x1x128 : Shape := ⟨4, ![4, 16, 1, 128]⟩
abbrev S1x1 : Shape := ⟨2, ![1, 1]⟩
abbrev S_ : Shape := ⟨0, ![]⟩
abbrev S1x128x2048 : Shape := ⟨3, ![1, 128, 2048]⟩
abbrev S1x16x2048 : Shape := ⟨3, ![1, 16, 2048]⟩
abbrev S1x1x1x128 : Shape := ⟨4, ![1, 1, 1, 128]⟩
abbrev S1408x2176 : Shape := ⟨2, ![1408, 2176]⟩
abbrev S128x2048 : Shape := ⟨2, ![128, 2048]⟩
abbrev S16x2048 : Shape := ⟨2, ![16, 2048]⟩
abbrev S144x2048 : Shape := ⟨2, ![144, 2048]⟩
abbrev S129x2048 : Shape := ⟨2, ![129, 2048]⟩
abbrev S1 : Shape := ⟨1, ![1]⟩
abbrev S1x1x1 : Shape := ⟨3, ![1, 1, 1]⟩
abbrev S128x2047 : Shape := ⟨2, ![128, 2047]⟩
abbrev S1x128x2047 : Shape := ⟨3, ![1, 128, 2047]⟩
abbrev S1408x128 : Shape := ⟨2, ![1408, 128]⟩
abbrev S1408x2048 : Shape := ⟨2, ![1408, 2048]⟩
abbrev S1x128 : Shape := ⟨2, ![1, 128]⟩
abbrev S4x128 : Shape := ⟨2, ![4, 128]⟩
abbrev S4 : Shape := ⟨1, ![4]⟩
abbrev S4x1 : Shape := ⟨2, ![4, 1]⟩

abbrev nBuf : Space → Nat
  | .hbm => 12
  | .vmem => 16
  | .smem => 0
  | _ => 0

abbrev bufTy : (tb : Table) → Fin (tcTables nBuf tb) → BufTy
  | .hbm, ⟨0, _⟩ => ⟨S4x1x2048x2048, .f32⟩
  | .hbm, ⟨1, _⟩ => ⟨S4x1x2048x2048, .f32⟩
  | .hbm, ⟨2, _⟩ => ⟨S1408x144, .bf16⟩
  | .hbm, ⟨3, _⟩ => ⟨S4x2048x2048, .f32⟩
  | .hbm, ⟨4, _⟩ => ⟨S4x2048x2048, .f32⟩
  | .hbm, ⟨5, _⟩ => ⟨S4x16x1x128, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x128x2048, .f32⟩
  | .local _ .vmem, ⟨1, _⟩ => ⟨S1x128x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x16x2048, .f32⟩
  | .local _ .vmem, ⟨7, _⟩ => ⟨S1x16x2048, .f32⟩
  | .local _ .vmem, ⟨8, _⟩ => ⟨S1408x144, .bf16⟩
  | .local _ .vmem, ⟨9, _⟩ => ⟨S1x1x1x128, .f32⟩
  | .local _ .vmem, ⟨10, _⟩ => ⟨S1x1x1x128, .f32⟩
  | .local _ .vmem, ⟨11, _⟩ => ⟨S1408x2176, .f32⟩
  | .local _ .vmem, ⟨12, _⟩ => ⟨S4x16x1x128, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | _, _ => ⟨S4x1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_call0_v3_1 : Ref sig .tc := ⟨.hbm, 7, rfl⟩
abbrev main_call0_v3_2 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem2_0 : DmaSem sig := 13
abbrev cc1_sem3_0 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1408x144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := .none

abbrev stage1_0 : Fin 1 → Memref sig .tc .vmem S4x16x1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== KernelIdeal.lean ====
variable {F : FTy → Type} [FloatOps F] [Named F]
def κ : String → Option EReal := fun
  | "ten_by_ln10" => some ((10 * (Real.log 10)⁻¹ : ℝ) : EReal)
  | _ => none
-- ==== ReferenceIdeal.lean ====
abbrev S4x1x2048x2048 : Shape := ⟨4, ![4, 1, 2048, 2048]⟩
abbrev S11x11 : Shape := ⟨2, ![11, 11]⟩
abbrev S_ : Shape := ⟨0, ![]⟩
abbrev S4x1x2047x2048 : Shape := ⟨4, ![4, 1, 2047, 2048]⟩
abbrev S4x1x2048x2047 : Shape := ⟨4, ![4, 1, 2048, 2047]⟩
abbrev S4x1 : Shape := ⟨2, ![4, 1]⟩
abbrev S4x1x1x1 : Shape := ⟨4, ![4, 1, 1, 1]⟩
abbrev S4x1x2038x2048 : Shape := ⟨4, ![4, 1, 2038, 2048]⟩
abbrev S4x1x1x2038x2048 : Shape := ⟨5, ![4, 1, 1, 2038, 2048]⟩
abbrev S4x1x11x2038x2048 : Shape := ⟨5, ![4, 1, 11, 2038, 2048]⟩
abbrev S4x1x11x2038x2038 : Shape := ⟨5, ![4, 1, 11, 2038, 2038]⟩
abbrev S4x1x11x1x2038x2038 : Shape := ⟨6, ![4, 1, 11, 1, 2038, 2038]⟩
abbrev S4x1x11x11x2038x2038 : Shape := ⟨6, ![4, 1, 11, 11, 2038, 2038]⟩
abbrev S1x1x11x11x1x1 : Shape := ⟨6, ![1, 1, 11, 11, 1, 1]⟩
abbrev S4x1x2038x2038 : Shape := ⟨4, ![4, 1, 2038, 2038]⟩
abbrev S4 : Shape := ⟨1, ![4]⟩

abbrev nBuf : Space → Nat
  | .hbm => 512
  | .vmem => 0
  | .smem => 0
  | _ => 0

abbrev hbmTy0_0 (i : Nat) : BufTy := match i % 128 with
  | 0 => ⟨S4x1x2048x2048, .f32⟩
  | 1 => ⟨S4x1x2048x2048, .f32⟩
  | 2 => ⟨S11x11, .f32⟩
  | 3 => ⟨S11x11, .f32⟩
  | 4 => ⟨S11x11, .f32⟩
  | 5 => ⟨S11x11, .f32⟩
  | 6 => ⟨S11x11, .f32⟩
  | 7 => ⟨S4x1x2048x2048, .f32⟩
  | 8 => ⟨S4x1x2048x2048, .f32⟩
  | 9 => ⟨S_, .f32⟩
  | 10 => ⟨S_, .f32⟩
  | 11 => ⟨S_, .f32⟩
  | 12 => ⟨S_, .f32⟩
  | 13 => ⟨S4x1x2047x2048, .f32⟩
  | 14 => ⟨S4x1x2047x2048, .f32⟩
  | 15 => ⟨S4x1x2047x2048, .f32⟩
  | 16 => ⟨S4x1x2047x2048, .f32⟩
  | 17 => ⟨S4x1x2047x2048, .f32⟩
  | 18 => ⟨S4x1x2047x2048, .f32⟩
  | 19 => ⟨S4x1x2047x2048, .f32⟩
  | 20 => ⟨S4x1x2047x2048, .f32⟩
  | 21 => ⟨S_, .f32⟩
  | 22 => ⟨S_, .f32⟩
  | 23 => ⟨S_, .f32⟩
  | 24 => ⟨S_, .f32⟩
  | 25 => ⟨S4x1x2048x2047, .f32⟩
  | 26 => ⟨S4x1x2048x2047, .f32⟩
  | 27 => ⟨S4x1x2048x2047, .f32⟩
  | 28 => ⟨S4x1x2048x2047, .f32⟩
  | 29 => ⟨S4x1x2048x2047, .f32⟩
  | 30 => ⟨S4x1x2048x2047, .f32⟩
  | 31 => ⟨S4x1x2048x2047, .f32⟩
  | 32 => ⟨S4x1x2048x2047, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S4x1, .f32⟩
  | 40 => ⟨S_, .f32⟩
  | 41 => ⟨S4x1, .f32⟩
  | 42 => ⟨S4x1, .f32⟩
  | 43 => ⟨S_, .f32⟩
  | 44 => ⟨S4x1, .f32⟩
  | 45 => ⟨S_, .f32⟩
  | 46 => ⟨S4x1, .f32⟩
  | 47 => ⟨S4x1, .f32⟩
  | 48 => ⟨S4x1, .f32⟩
  | 49 => ⟨S4x1, .f32⟩
  | 50 => ⟨S_, .f32⟩
  | 51 => ⟨S_, .f32⟩
  | 52 => ⟨S_, .f32⟩
  | 53 => ⟨S_, .f32⟩
  | 54 => ⟨S4x1x1x1, .f32⟩
  | 55 => ⟨S4x1x2048x2048, .f32⟩
  | 56 => ⟨S4x1x2048x2048, .f32⟩
  | 57 => ⟨S4x1x2048x2048, .f32⟩
  | 58 => ⟨S_, .f32⟩
  | 59 => ⟨S4x1, .f32⟩
  | 60 => ⟨S_, .f32⟩
  | 61 => ⟨S4x1, .f32⟩
  | 62 => ⟨S4x1, .f32⟩
  | 63 => ⟨S4x1, .f32⟩
  | 64 => ⟨S4x1x1x1, .f32⟩
  | 65 => ⟨S4x1x2048x2048, .f32⟩
  | 66 => ⟨S4x1x2048x2048, .f32⟩
  | 67 => ⟨S4x1x2048x2048, .f32⟩
  | 68 => ⟨S_, .f32⟩
  | 69 => ⟨S4x1, .f32⟩
  | 70 => ⟨S_, .f32⟩
  | 71 => ⟨S4x1, .f32⟩
  | 72 => ⟨S4x1, .f32⟩
  | 73 => ⟨S4x1, .f32⟩
  | 74 => ⟨S4x1, .f32⟩
  | 75 => ⟨S4x1, .f32⟩
  | 76 => ⟨S_, .f32⟩
  | 77 => ⟨S_, .f32⟩
  | 78 => ⟨S_, .f32⟩
  | 79 => ⟨S_, .f32⟩
  | 80 => ⟨S4x1x2048x2048, .f32⟩
  | 81 => ⟨S_, .f32⟩
  | 82 => ⟨S4x1x2048x2048, .f32⟩
  | 83 => ⟨S4x1x2048x2048, .f32⟩
  | 84 => ⟨S_, .f32⟩
  | 85 => ⟨S4x1x2048x2048, .f32⟩
  | 86 => ⟨S4x1x2048x2048, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S4x1x2048x2048, .f32⟩
  | 101 => ⟨S4x1x2048x2048, .f32⟩
  | 102 => ⟨S_, .f32⟩
  | 103 => ⟨S4x1x2048x2048, .f32⟩
  | 104 => ⟨S4x1x2048x2048, .f32⟩
  | 105 => ⟨S_, .f32⟩
  | 106 => ⟨S4x1x2048x2048, .f32⟩
  | 107 => ⟨S4x1x2048x2048, .f32⟩
  | 108 => ⟨S_, .f32⟩
  | 109 => ⟨S4x1x2048x2048, .f32⟩
  | 110 => ⟨S4x1x2048x2048, .f32⟩
  | 111 => ⟨S_, .f32⟩
  | 112 => ⟨S_, .f32⟩
  | 113 => ⟨S_, .f32⟩
  | 114 => ⟨S4x1x2048x2048, .f32⟩
  | 115 => ⟨S4x1x2048x2048, .f32⟩
  | 116 => ⟨S_, .f32⟩
  | 117 => ⟨S4x1x2048x2048, .f32⟩
  | 118 => ⟨S4x1x2048x2048, .f32⟩
  | 119 => ⟨S_, .f32⟩
  | 120 => ⟨S4x1x2048x2048, .f32⟩
  | 121 => ⟨S4x1x2048x2048, .f32⟩
  | 122 => ⟨S_, .f32⟩
  | 123 => ⟨S_, .f32⟩
  | 124 => ⟨S_, .f32⟩
  | 125 => ⟨S4x1x2048x2048, .f32⟩
  | 126 => ⟨S4x1x2048x2048, .f32⟩
  | 127 => ⟨S_, .f32⟩
  | _ => ⟨S4x1x2048x2048, .f32⟩

abbrev hbmTy0_1 (i : Nat) : BufTy := match i % 128 with
  | 0 => ⟨S4x1x2048x2048, .f32⟩
  | 1 => ⟨S4x1x2048x2048, .f32⟩
  | 2 => ⟨S4x1x2048x2048, .f32⟩
  | 3 => ⟨S_, .f32⟩
  | 4 => ⟨S_, .f32⟩
  | 5 => ⟨S_, .f32⟩
  | 6 => ⟨S4x1x2048x2048, .f32⟩
  | 7 => ⟨S4x1x2048x2048, .f32⟩
  | 8 => ⟨S_, .f32⟩
  | 9 => ⟨S4x1x2048x2048, .f32⟩
  | 10 => ⟨S4x1x2048x2048, .f32⟩
  | 11 => ⟨S_, .f32⟩
  | 12 => ⟨S4x1x2048x2048, .f32⟩
  | 13 => ⟨S4x1x2048x2048, .f32⟩
  | 14 => ⟨S_, .f32⟩
  | 15 => ⟨S4x1x2048x2048, .f32⟩
  | 16 => ⟨S4x1x2048x2048, .f32⟩
  | 17 => ⟨S_, .f32⟩
  | 18 => ⟨S_, .f32⟩
  | 19 => ⟨S_, .f32⟩
  | 20 => ⟨S4x1x2048x2048, .f32⟩
  | 21 => ⟨S4x1x2048x2048, .f32⟩
  | 22 => ⟨S_, .f32⟩
  | 23 => ⟨S4x1x2048x2048, .f32⟩
  | 24 => ⟨S4x1x2048x2048, .f32⟩
  | 25 => ⟨S_, .f32⟩
  | 26 => ⟨S4x1x2048x2048, .f32⟩
  | 27 => ⟨S4x1x2048x2048, .f32⟩
  | 28 => ⟨S_, .f32⟩
  | 29 => ⟨S_, .f32⟩
  | 30 => ⟨S_, .f32⟩
  | 31 => ⟨S4x1x2048x2048, .f32⟩
  | 32 => ⟨S4x1x2048x2048, .f32⟩
  | 33 => ⟨S_, .f32⟩
  | 34 => ⟨S4x1x2048x2048, .f32⟩
  | 35 => ⟨S4x1x2048x2048, .f32⟩
  | 36 => ⟨S4x1x2048x2048, .f32⟩
  | 37 => ⟨S4x1x2038x2048, .f32⟩
  | 38 => ⟨S4x1x2038x2048, .f32⟩
  | 39 => ⟨S4x1x2038x2048, .f32⟩
  | 40 => ⟨S4x1x2038x2048, .f32⟩
  | 41 => ⟨S4x1x2038x2048, .f32⟩
  | 42 => ⟨S4x1x2038x2048, .f32⟩
  | 43 => ⟨S4x1x2038x2048, .f32⟩
  | 44 => ⟨S4x1x2038x2048, .f32⟩
  | 45 => ⟨S4x1x2038x2048, .f32⟩
  | 46 => ⟨S4x1x2038x2048, .f32⟩
  | 47 => ⟨S4x1x2038x2048, .f32⟩
  | 48 => ⟨S4x1x1x2038x2048, .f32⟩
  | 49 => ⟨S4x1x1x2038x2048, .f32⟩
  | 50 => ⟨S4x1x1x2038x2048, .f32⟩
  | 51 => ⟨S4x1x1x2038x2048, .f32⟩
  | 52 => ⟨S4x1x1x2038x2048, .f32⟩
  | 53 => ⟨S4x1x1x2038x2048, .f32⟩
  | 54 => ⟨S4x1x1x2038x2048, .f32⟩
  | 55 => ⟨S4x1x1x2038x2048, .f32⟩
  | 56 => ⟨S4x1x1x2038x2048, .f32⟩
  | 57 => ⟨S4x1x1x2038x2048, .f32⟩
  | 58 => ⟨S4x1x1x2038x2048, .f32⟩
  | 59 => ⟨S4x1x11x2038x2048, .f32⟩
  | 60 => ⟨S4x1x11x2038x2038, .f32⟩
  | 61 => ⟨S4x1x11x2038x2038, .f32⟩
  | 62 => ⟨S4x1x11x2038x2038, .f32⟩
  | 63 => ⟨S4x1x11x2038x2038, .f32⟩
  | 64 => ⟨S4x1x11x2038x2038, .f32⟩
  | 65 => ⟨S4x1x11x2038x2038, .f32⟩
  | 66 => ⟨S4x1x11x2038x2038, .f32⟩
  | 67 => ⟨S4x1x11x2038x2038, .f32⟩
  | 68 => ⟨S4x1x11x2038x2038, .f32⟩
  | 69 => ⟨S4x1x11x2038x2038, .f32⟩
  | 70 => ⟨S4x1x11x2038x2038, .f32⟩
  | 71 => ⟨S4x1x11x1x2038x2038, .f32⟩
  | 72 => ⟨S4x1x11x1x2038x2038, .f32⟩
  | 73 => ⟨S4x1x11x1x2038x2038, .f32⟩
  | 74 => ⟨S4x1x11x1x2038x2038, .f32⟩
  | 75 => ⟨S4x1x11x1x2038x2038, .f32⟩
  | 76 => ⟨S4x1x11x1x2038x2038, .f32⟩
  | 77 => ⟨S4x1x11x1x2038x2038, .f32⟩
  | 78 => ⟨S4x1x11x1x2038x2038, .f32⟩
  | 79 => ⟨S4x1x11x1x2038x2038, .f32⟩
  | 80 => ⟨S4x1x11x1x2038x2038, .f32⟩
  | 81 => ⟨S4x1x11x1x2038x2038, .f32⟩
  | 82 => ⟨S4x1x11x11x2038x2038, .f32⟩
  | 83 => ⟨S1x1x11x11x1x1, .f32⟩
  | 84 => ⟨S4x1x11x11x2038x2038, .f32⟩
  | 85 => ⟨S4x1x11x11x2038x2038, .f32⟩
  | 86 => ⟨S_, .f32⟩
  | 87 => ⟨S4x1x2038x2038, .f32⟩
  | 88 => ⟨S4x1x2038x2048, .f32⟩
  | 89 => ⟨S4x1x2038x2048, .f32⟩
  | 90 => ⟨S4x1x2038x2048, .f32⟩
  | 91 => ⟨S4x1x2038x2048, .f32⟩
  | 92 => ⟨S4x1x2038x2048, .f32⟩
  | 93 => ⟨S4x1x2038x2048, .f32⟩
  | 94 => ⟨S4x1x2038x2048, .f32⟩
  | 95 => ⟨S4x1x2038x2048, .f32⟩
  | 96 => ⟨S4x1x2038x2048, .f32⟩
  | 97 => ⟨S4x1x2038x2048, .f32⟩
  | 98 => ⟨S4x1x2038x2048, .f32⟩
  | 99 => ⟨S4x1x1x2038x2048, .f32⟩
  | 100 => ⟨S4x1x1x2038x2048, .f32⟩
  | 101 => ⟨S4x1x1x2038x2048, .f32⟩
  | 102 => ⟨S4x1x1x2038x2048, .f32⟩
  | 103 => ⟨S4x1x1x2038x2048, .f32⟩
  | 104 => ⟨S4x1x1x2038x2048, .f32⟩
  | 105 => ⟨S4x1x1x2038x2048, .f32⟩
  | 106 => ⟨S4x1x1x2038x2048, .f32⟩
  | 107 => ⟨S4x1x1x2038x2048, .f32⟩
  | 108 => ⟨S4x1x1x2038x2048, .f32⟩
  | 109 => ⟨S4x1x1x2038x2048, .f32⟩
  | 110 => ⟨S4x1x11x2038x2048, .f32⟩
  | 111 => ⟨S4x1x11x2038x2038, .f32⟩
  | 112 => ⟨S4x1x11x2038x2038, .f32⟩
  | 113 => ⟨S4x1x11x2038x2038, .f32⟩
  | 114 => ⟨S4x1x11x2038x2038, .f32⟩
  | 115 => ⟨S4x1x11x2038x2038, .f32⟩
  | 116 => ⟨S4x1x11x2038x2038, .f32⟩
  | 117 => ⟨S4x1x11x2038x2038, .f32⟩
  | 118 => ⟨S4x1x11x2038x2038, .f32⟩
  | 119 => ⟨S4x1x11x2038x2038, .f32⟩
  | 120 => ⟨S4x1x11x2038x2038, .f32⟩
  | 121 => ⟨S4x1x11x2038x2038, .f32⟩
  | 122 => ⟨S4x1x11x1x2038x2038, .f32⟩
  | 123 => ⟨S4x1x11x1x2038x2038, .f32⟩
  | 124 => ⟨S4x1x11x1x2038x2038, .f32⟩
  | 125 => ⟨S4x1x11x1x2038x2038, .f32⟩
  | 126 => ⟨S4x1x11x1x2038x2038, .f32⟩
  | 127 => ⟨S4x1x11x1x2038x2038, .f32⟩
  | _ => ⟨S4x1x2048x2048, .f32⟩

abbrev hbmTy0_2 (i : Nat) : BufTy := match i % 128 with
  | 0 => ⟨S4x1x11x1x2038x2038, .f32⟩
  | 1 => ⟨S4x1x11x1x2038x2038, .f32⟩
  | 2 => ⟨S4x1x11x1x2038x2038, .f32⟩
  | 3 => ⟨S4x1x11x1x2038x2038, .f32⟩
  | 4 => ⟨S4x1x11x1x2038x2038, .f32⟩
  | 5 => ⟨S4x1x11x11x2038x2038, .f32⟩
  | 6 => ⟨S1x1x11x11x1x1, .f32⟩
  | 7 => ⟨S4x1x11x11x2038x2038, .f32⟩
  | 8 => ⟨S4x1x11x11x2038x2038, .f32⟩
  | 9 => ⟨S_, .f32⟩
  | 10 => ⟨S4x1x2038x2038, .f32⟩
  | 11 => ⟨S4x1x2038x2038, .f32⟩
  | 12 => ⟨S4x1x2038x2038, .f32⟩
  | 13 => ⟨S4x1x2038x2038, .f32⟩
  | 14 => ⟨S4x1x2048x2048, .f32⟩
  | 15 => ⟨S4x1x2038x2048, .f32⟩
  | 16 => ⟨S4x1x2038x2048, .f32⟩
  | 17 => ⟨S4x1x2038x2048, .f32⟩
  | 18 => ⟨S4x1x2038x2048, .f32⟩
  | 19 => ⟨S4x1x2038x2048, .f32⟩
  | 20 => ⟨S4x1x2038x2048, .f32⟩
  | 21 => ⟨S4x1x2038x2048, .f32⟩
  | 22 => ⟨S4x1x2038x2048, .f32⟩
  | 23 => ⟨S4x1x2038x2048, .f32⟩
  | 24 => ⟨S4x1x2038x2048, .f32⟩
  | 25 => ⟨S4x1x2038x2048, .f32⟩
  | 26 => ⟨S4x1x1x2038x2048, .f32⟩
  | 27 => ⟨S4x1x1x2038x2048, .f32⟩
  | 28 => ⟨S4x1x1x2038x2048, .f32⟩
  | 29 => ⟨S4x1x1x2038x2048, .f32⟩
  | 30 => ⟨S4x1x1x2038x2048, .f32⟩
  | 31 => ⟨S4x1x1x2038x2048, .f32⟩
  | 32 => ⟨S4x1x1x2038x2048, .f32⟩
  | 33 => ⟨S4x1x1x2038x2048, .f32⟩
  | 34 => ⟨S4x1x1x2038x2048, .f32⟩
  | 35 => ⟨S4x1x1x2038x2048, .f32⟩
  | 36 => ⟨S4x1x1x2038x2048, .f32⟩
  | 37 => ⟨S4x1x11x2038x2048, .f32⟩
  | 38 => ⟨S4x1x11x2038x2038, .f32⟩
  | 39 => ⟨S4x1x11x2038x2038, .f32⟩
  | 40 => ⟨S4x1x11x2038x2038, .f32⟩
  | 41 => ⟨S4x1x11x2038x2038, .f32⟩
  | 42 => ⟨S4x1x11x2038x2038, .f32⟩
  | 43 => ⟨S4x1x11x2038x2038, .f32⟩
  | 44 => ⟨S4x1x11x2038x2038, .f32⟩
  | 45 => ⟨S4x1x11x2038x2038, .f32⟩
  | 46 => ⟨S4x1x11x2038x2038, .f32⟩
  | 47 => ⟨S4x1x11x2038x2038, .f32⟩
  | 48 => ⟨S4x1x11x2038x2038, .f32⟩
  | 49 => ⟨S4x1x11x1x2038x2038, .f32⟩
  | 50 => ⟨S4x1x11x1x2038x2038, .f32⟩
  | 51 => ⟨S4x1x11x1x2038x2038, .f32⟩
  | 52 => ⟨S4x1x11x1x2038x2038, .f32⟩
  | 53 => ⟨S4x1x11x1x2038x2038, .f32⟩
  | 54 => ⟨S4x1x11x1x2038x2038, .f32⟩
  | 55 => ⟨S4x1x11x1x2038x2038, .f32⟩
  | 56 => ⟨S4x1x11x1x2038x2038, .f32⟩
  | 57 => ⟨S4x1x11x1x2038x2038, .f32⟩
  | 58 => ⟨S4x1x11x1x2038x2038, .f32⟩
  | 59 => ⟨S4x1x11x1x2038x2038, .f32⟩
  | 60 => ⟨S4x1x11x11x2038x2038, .f32⟩
  | 61 => ⟨S1x1x11x11x1x1, .f32⟩
  | 62 => ⟨S4x1x11x11x2038x2038, .f32⟩
  | 63 => ⟨S4x1x11x11x2038x2038, .f32⟩
  | 64 => ⟨S_, .f32⟩
  | 65 => ⟨S4x1x2038x2038, .f32⟩
  | 66 => ⟨S4x1x2038x2038, .f32⟩
  | 67 => ⟨S4x1x2048x2048, .f32⟩
  | 68 => ⟨S4x1x2038x2048, .f32⟩
  | 69 => ⟨S4x1x2038x2048, .f32⟩
  | 70 => ⟨S4x1x2038x2048, .f32⟩
  | 71 => ⟨S4x1x2038x2048, .f32⟩
  | 72 => ⟨S4x1x2038x2048, .f32⟩
  | 73 => ⟨S4x1x2038x2048, .f32⟩
  | 74 => ⟨S4x1x2038x2048, .f32⟩
  | 75 => ⟨S4x1x2038x2048, .f32⟩
  | 76 => ⟨S4x1x2038x2048, .f32⟩
  | 77 => ⟨S4x1x2038x2048, .f32⟩
  | 78 => ⟨S4x1x2038x2048, .f32⟩
  | 79 => ⟨S4x1x1x2038x2048, .f32⟩
  | 80 => ⟨S4x1x1x2038x2048, .f32⟩
  | 81 => ⟨S4x1x1x2038x2048, .f32⟩
  | 82 => ⟨S4x1x1x2038x2048, .f32⟩
  | 83 => ⟨S4x1x1x2038x2048, .f32⟩
  | 84 => ⟨S4x1x1x2038x2048, .f32⟩
  | 85 => ⟨S4x1x1x2038x2048, .f32⟩
  | 86 => ⟨S4x1x1x2038x2048, .f32⟩
  | 87 => ⟨S4x1x1x2038x2048, .f32⟩
  | 88 => ⟨S4x1x1x2038x2048, .f32⟩
  | 89 => ⟨S4x1x1x2038x2048, .f32⟩
  | 90 => ⟨S4x1x11x2038x2048, .f32⟩
  | 91 => ⟨S4x1x11x2038x2038, .f32⟩
  | 92 => ⟨S4x1x11x2038x2038, .f32⟩
  | 93 => ⟨S4x1x11x2038x2038, .f32⟩
  | 94 => ⟨S4x1x11x2038x2038, .f32⟩
  | 95 => ⟨S4x1x11x2038x2038, .f32⟩
  | 96 => ⟨S4x1x11x2038x2038, .f32⟩
  | 97 => ⟨S4x1x11x2038x2038, .f32⟩
  | 98 => ⟨S4x1x11x2038x2038, .f32⟩
  | 99 => ⟨S4x1x11x2038x2038, .f32⟩
  | 100 => ⟨S4x1x11x2038x2038, .f32⟩
  | 101 => ⟨S4x1x11x2038x2038, .f32⟩
  | 102 => ⟨S4x1x11x1x2038x2038, .f32⟩
  | 103 => ⟨S4x1x11x1x2038x2038, .f32⟩
  | 104 => ⟨S4x1x11x1x2038x2038, .f32⟩
  | 105 => ⟨S4x1x11x1x2038x2038, .f32⟩
  | 106 => ⟨S4x1x11x1x2038x2038, .f32⟩
  | 107 => ⟨S4x1x11x1x2038x2038, .f32⟩
  | 108 => ⟨S4x1x11x1x2038x2038, .f32⟩
  | 109 => ⟨S4x1x11x1x2038x2038, .f32⟩
  | 110 => ⟨S4x1x11x1x2038x2038, .f32⟩
  | 111 => ⟨S4x1x11x1x2038x2038, .f32⟩
  | 112 => ⟨S4x1x11x1x2038x2038, .f32⟩
  | 113 => ⟨S4x1x11x11x2038x2038, .f32⟩
  | 114 => ⟨S1x1x11x11x1x1, .f32⟩
  | 115 => ⟨S4x1x11x11x2038x2038, .f32⟩
  | 116 => ⟨S4x1x11x11x2038x2038, .f32⟩
  | 117 => ⟨S_, .f32⟩
  | 118 => ⟨S4x1x2038x2038, .f32⟩
  | 119 => ⟨S4x1x2038x2038, .f32⟩
  | 120 => ⟨S4x1x2048x2048, .f32⟩
  | 121 => ⟨S4x1x2038x2048, .f32⟩
  | 122 => ⟨S4x1x2038x2048, .f32⟩
  | 123 => ⟨S4x1x2038x2048, .f32⟩
  | 124 => ⟨S4x1x2038x2048, .f32⟩
  | 125 => ⟨S4x1x2038x2048, .f32⟩
  | 126 => ⟨S4x1x2038x2048, .f32⟩
  | 127 => ⟨S4x1x2038x2048, .f32⟩
  | _ => ⟨S4x1x2048x2048, .f32⟩

abbrev hbmTy0_3 (i : Nat) : BufTy := match i % 128 with
  | 0 => ⟨S4x1x2038x2048, .f32⟩
  | 1 => ⟨S4x1x2038x2048, .f32⟩
  | 2 => ⟨S4x1x2038x2048, .f32⟩
  | 3 => ⟨S4x1x2038x2048, .f32⟩
  | 4 => ⟨S4x1x1x2038x2048, .f32⟩
  | 5 => ⟨S4x1x1x2038x2048, .f32⟩
  | 6 => ⟨S4x1x1x2038x2048, .f32⟩
  | 7 => ⟨S4x1x1x2038x2048, .f32⟩
  | 8 => ⟨S4x1x1x2038x2048, .f32⟩
  | 9 => ⟨S4x1x1x2038x2048, .f32⟩
  | 10 => ⟨S4x1x1x2038x2048, .f32⟩
  | 11 => ⟨S4x1x1x2038x2048, .f32⟩
  | 12 => ⟨S4x1x1x2038x2048, .f32⟩
  | 13 => ⟨S4x1x1x2038x2048, .f32⟩
  | 14 => ⟨S4x1x1x2038x2048, .f32⟩
  | 15 => ⟨S4x1x11x2038x2048, .f32⟩
  | 16 => ⟨S4x1x11x2038x2038, .f32⟩
  | 17 => ⟨S4x1x11x2038x2038, .f32⟩
  | 18 => ⟨S4x1x11x2038x2038, .f32⟩
  | 19 => ⟨S4x1x11x2038x2038, .f32⟩
  | 20 => ⟨S4x1x11x2038x2038, .f32⟩
  | 21 => ⟨S4x1x11x2038x2038, .f32⟩
  | 22 => ⟨S4x1x11x2038x2038, .f32⟩
  | 23 => ⟨S4x1x11x2038x2038, .f32⟩
  | 24 => ⟨S4x1x11x2038x2038, .f32⟩
  | 25 => ⟨S4x1x11x2038x2038, .f32⟩
  | 26 => ⟨S4x1x11x2038x2038, .f32⟩
  | 27 => ⟨S4x1x11x1x2038x2038, .f32⟩
  | 28 => ⟨S4x1x11x1x2038x2038, .f32⟩
  | 29 => ⟨S4x1x11x1x2038x2038, .f32⟩
  | 30 => ⟨S4x1x11x1x2038x2038, .f32⟩
  | 31 => ⟨S4x1x11x1x2038x2038, .f32⟩
  | 32 => ⟨S4x1x11x1x2038x2038, .f32⟩
  | 33 => ⟨S4x1x11x1x2038x2038, .f32⟩
  | 34 => ⟨S4x1x11x1x2038x2038, .f32⟩
  | 35 => ⟨S4x1x11x1x2038x2038, .f32⟩
  | 36 => ⟨S4x1x11x1x2038x2038, .f32⟩
  | 37 => ⟨S4x1x11x1x2038x2038, .f32⟩
  | 38 => ⟨S4x1x11x11x2038x2038, .f32⟩
  | 39 => ⟨S1x1x11x11x1x1, .f32⟩
  | 40 => ⟨S4x1x11x11x2038x2038, .f32⟩
  | 41 => ⟨S4x1x11x11x2038x2038, .f32⟩
  | 42 => ⟨S_, .f32⟩
  | 43 => ⟨S4x1x2038x2038, .f32⟩
  | 44 => ⟨S4x1x2038x2038, .f32⟩
  | 45 => ⟨S_, .f32⟩
  | 46 => ⟨S4x1x2038x2038, .f32⟩
  | 47 => ⟨S4x1x2038x2038, .f32⟩
  | 48 => ⟨S_, .f32⟩
  | 49 => ⟨S4x1x2038x2038, .f32⟩
  | 50 => ⟨S4x1x2038x2038, .f32⟩
  | 51 => ⟨S_, .f32⟩
  | 52 => ⟨S4x1x2038x2038, .f32⟩
  | 53 => ⟨S4x1x2038x2038, .f32⟩
  | 54 => ⟨S_, .f32⟩
  | 55 => ⟨S4x1x2038x2038, .f32⟩
  | 56 => ⟨S4x1x2038x2038, .f32⟩
  | 57 => ⟨S4x1x2038x2038, .f32⟩
  | 58 => ⟨S4x1x2038x2038, .f32⟩
  | 59 => ⟨S_, .f32⟩
  | 60 => ⟨S4x1x2038x2038, .f32⟩
  | 61 => ⟨S4x1x2038x2038, .f32⟩
  | 62 => ⟨S4x1x2038x2038, .f32⟩
  | 63 => ⟨S_, .f32⟩
  | 64 => ⟨S4x1x2038x2038, .f32⟩
  | 65 => ⟨S4x1x2038x2038, .f32⟩
  | 66 => ⟨S4x1x2038x2038, .f32⟩
  | 67 => ⟨S4x1x2038x2038, .f32⟩
  | 68 => ⟨S_, .f32⟩
  | 69 => ⟨S4, .f32⟩
  | 70 => ⟨S_, .f32⟩
  | 71 => ⟨S4, .f32⟩
  | 72 => ⟨S4, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S4x1x2048x2048, .f32⟩
  | 84 => ⟨S4x1x2048x2048, .f32⟩
  | 85 => ⟨S_, .f32⟩
  | 86 => ⟨S4, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S_, .f32⟩
  | 94 => ⟨S4, .f32⟩
  | 95 => ⟨S4, .f32⟩
  | 96 => ⟨S4, .f32⟩
  | 97 => ⟨S_, .f32⟩
  | 98 => ⟨S_, .f32⟩
  | 99 => ⟨S4, .f32⟩
  | 100 => ⟨S4, .f32⟩
  | 101 => ⟨S_, .f32⟩
  | 102 => ⟨S4, .f32⟩
  | 103 => ⟨S4, .f32⟩
  | 104 => ⟨S_, .f32⟩
  | 105 => ⟨S4, .f32⟩
  | 106 => ⟨S4, .i1⟩
  | 107 => ⟨S_, .f32⟩
  | 108 => ⟨S_, .f32⟩
  | 109 => ⟨S4, .f32⟩
  | 110 => ⟨S4, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x1x2048x2048, .f32⟩

abbrev hbmTy (i : Nat) : BufTy := match i / 128 with
  | 0 => hbmTy0_0 i
  | 1 => hbmTy0_1 i
  | 2 => hbmTy0_2 i
  | 3 => hbmTy0_3 i
  | _ => ⟨S4x1x2048x2048, .f32⟩

abbrev bufTy : (tb : Table) → Fin (tcTables nBuf tb) → BufTy
  | .hbm, ⟨i, _⟩ => hbmTy i
  | _, _ => ⟨S4x1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_cst_3 : Ref sig .tc := ⟨.hbm, 6, rfl⟩
abbrev main_v0 : Ref sig .tc := ⟨.hbm, 7, rfl⟩
abbrev main_v1 : Ref sig .tc := ⟨.hbm, 8, rfl⟩
abbrev main_cst_4 : Ref sig .tc := ⟨.hbm, 9, rfl⟩
abbrev main_v2 : Ref sig .tc := ⟨.hbm, 10, rfl⟩
abbrev main_cst_5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_cst_7 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_cst_11 : Ref sig .tc := ⟨.hbm, 40, rfl⟩
abbrev main_v26 : Ref sig .tc := ⟨.hbm, 41, rfl⟩
abbrev main_v27 : Ref sig .tc := ⟨.hbm, 42, rfl⟩
abbrev main_cst_12 : Ref sig .tc := ⟨.hbm, 43, rfl⟩
abbrev main_v28 : Ref sig .tc := ⟨.hbm, 44, rfl⟩
abbrev main_cst_13 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_14 : Ref sig .tc := ⟨.hbm, 50, rfl⟩
abbrev main_v33 : Ref sig .tc := ⟨.hbm, 51, rfl⟩
abbrev main_cst_15 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_16 : Ref sig .tc := ⟨.hbm, 58, rfl⟩
abbrev main_v39 : Ref sig .tc := ⟨.hbm, 59, rfl⟩
abbrev main_cst_17 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_18 : Ref sig .tc := ⟨.hbm, 68, rfl⟩
abbrev main_v47 : Ref sig .tc := ⟨.hbm, 69, rfl⟩
abbrev main_cst_19 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_20 : Ref sig .tc := ⟨.hbm, 76, rfl⟩
abbrev main_v53 : Ref sig .tc := ⟨.hbm, 77, rfl⟩
abbrev main_cst_21 : Ref sig .tc := ⟨.hbm, 78, rfl⟩
abbrev main_v54 : Ref sig .tc := ⟨.hbm, 79, rfl⟩
abbrev main_v55 : Ref sig .tc := ⟨.hbm, 80, rfl⟩
abbrev main_cst_22 : Ref sig .tc := ⟨.hbm, 81, rfl⟩
abbrev main_v56 : Ref sig .tc := ⟨.hbm, 82, rfl⟩
abbrev main_v57 : Ref sig .tc := ⟨.hbm, 83, rfl⟩
abbrev main_call0_cst : Ref sig .tc := ⟨.hbm, 84, rfl⟩
abbrev main_call0_v0 : Ref sig .tc := ⟨.hbm, 85, rfl⟩
abbrev main_v58 : Ref sig .tc := ⟨.hbm, 86, rfl⟩
abbrev main_cst_23 : Ref sig .tc := ⟨.hbm, 87, rfl⟩
abbrev main_v59 : Ref sig .tc := ⟨.hbm, 88, rfl⟩
abbrev main_cst_24 : Ref sig .tc := ⟨.hbm, 89, rfl⟩
abbrev main_v60 : Ref sig .tc := ⟨.hbm, 90, rfl⟩
abbrev main_cst_25 : Ref sig .tc := ⟨.hbm, 91, rfl⟩
abbrev main_v61 : Ref sig .tc := ⟨.hbm, 92, rfl⟩
abbrev main_v62 : Ref sig .tc := ⟨.hbm, 93, rfl⟩
abbrev main_cst_26 : Ref sig .tc := ⟨.hbm, 94, rfl⟩
abbrev main_v63 : Ref sig .tc := ⟨.hbm, 95, rfl⟩
abbrev main_v64 : Ref sig .tc := ⟨.hbm, 96, rfl⟩
abbrev main_cst_27 : Ref sig .tc := ⟨.hbm, 97, rfl⟩
abbrev main_cst_28 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_v65 : Ref sig .tc := ⟨.hbm, 104, rfl⟩
abbrev main_cst_29 : Ref sig .tc := ⟨.hbm, 105, rfl⟩
abbrev main_v66 : Ref sig .tc := ⟨.hbm, 106, rfl⟩
abbrev main_v67 : Ref sig .tc := ⟨.hbm, 107, rfl⟩
abbrev main_cst_30 : Ref sig .tc := ⟨.hbm, 108, rfl⟩
abbrev main_v68 : Ref sig .tc := ⟨.hbm, 109, rfl⟩
abbrev main_v69 : Ref sig .tc := ⟨.hbm, 110, rfl⟩
abbrev main_cst_31 : Ref sig .tc := ⟨.hbm, 111, rfl⟩
abbrev main_cst_32 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_v70 : Ref sig .tc := ⟨.hbm, 118, rfl⟩
abbrev main_cst_33 : Ref sig .tc := ⟨.hbm, 119, rfl⟩
abbrev main_v71 : Ref sig .tc := ⟨.hbm, 120, rfl⟩
abbrev main_v72 : Ref sig .tc := ⟨.hbm, 121, rfl⟩
abbrev main_cst_34 : Ref sig .tc := ⟨.hbm, 122, rfl⟩
abbrev main_cst_35 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_v73 : Ref sig .tc := ⟨.hbm, 129, rfl⟩
abbrev main_v74 : Ref sig .tc := ⟨.hbm, 130, rfl⟩
abbrev main_cst_36 : Ref sig .tc := ⟨.hbm, 131, rfl⟩
abbrev main_cst_37 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_v75 : Ref sig .tc := ⟨.hbm, 138, rfl⟩
abbrev main_cst_38 : Ref sig .tc := ⟨.hbm, 139, rfl⟩
abbrev main_v76 : Ref sig .tc := ⟨.hbm, 140, rfl⟩
abbrev main_v77 : Ref sig .tc := ⟨.hbm, 141, rfl⟩
abbrev main_cst_39 : Ref sig .tc := ⟨.hbm, 142, rfl⟩
abbrev main_v78 : Ref sig .tc := ⟨.hbm, 143, rfl⟩
abbrev main_v79 : Ref sig .tc := ⟨.hbm, 144, rfl⟩
abbrev main_cst_40 : Ref sig .tc := ⟨.hbm, 145, rfl⟩
abbrev main_cst_41 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_call5_v3 : Ref sig .tc := ⟨.hbm, 150, rfl⟩
abbrev main_call5_v4 : Ref sig .tc := ⟨.hbm, 151, rfl⟩
abbrev main_v80 : Ref sig .tc := ⟨.hbm, 152, rfl⟩
abbrev main_cst_42 : Ref sig .tc := ⟨.hbm, 153, rfl⟩
abbrev main_v81 : Ref sig .tc := ⟨.hbm, 154, rfl⟩
abbrev main_v82 : Ref sig .tc := ⟨.hbm, 155, rfl⟩
abbrev main_cst_43 : Ref sig .tc := ⟨.hbm, 156, rfl⟩
abbrev main_cst_44 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_call6_v3 : Ref sig .tc := ⟨.hbm, 161, rfl⟩
abbrev main_call6_v4 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_cst_45 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_cst_46 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_cst_47 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_v276 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_v281 : Ref sig .tc := ⟨.hbm, 364, rfl⟩
abbrev main_v282 : Ref sig .tc := ⟨.hbm, 365, rfl⟩
abbrev main_v283 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_v288 : Ref sig .tc := ⟨.hbm, 371, rfl⟩
abbrev main_v289 : Ref sig .tc := ⟨.hbm, 372, rfl⟩
abbrev main_cst_48 : Ref sig .tc := ⟨.hbm, 373, rfl⟩
abbrev main_v290 : Ref sig .tc := ⟨.hbm, 374, rfl⟩
abbrev main_v291 : Ref sig .tc := ⟨.hbm, 375, rfl⟩
abbrev main_v292 : Ref sig .tc := ⟨.hbm, 376, rfl⟩
abbrev main_v293 : Ref sig .tc := ⟨.hbm, 377, rfl⟩
abbrev main_v294 : Ref sig .tc := ⟨.hbm, 378, rfl⟩
abbrev main_v295 : Ref sig .tc := ⟨.hbm, 379, rfl⟩
abbrev main_v296 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩
abbrev main_v301 : Ref sig .tc := ⟨.hbm, 385, rfl⟩
abbrev main_v302 : Ref sig .tc := ⟨.hbm, 386, rfl⟩
abbrev main_v303 : Ref sig .tc := ⟨.hbm, 387, rfl⟩
abbrev main_v304 : Ref sig .tc := ⟨.hbm, 388, rfl⟩
abbrev main_v305 : Ref sig .tc := ⟨.hbm, 389, rfl⟩
abbrev main_v306 : Ref sig .tc := ⟨.hbm, 390, rfl⟩
abbrev main_v307 : Ref sig .tc := ⟨.hbm, 391, rfl⟩
abbrev main_v308 : Ref sig .tc := ⟨.hbm, 392, rfl⟩
abbrev main_v309 : Ref sig .tc := ⟨.hbm, 393, rfl⟩
abbrev main_v310 : Ref sig .tc := ⟨.hbm, 394, rfl⟩
abbrev main_v311 : Ref sig .tc := ⟨.hbm, 395, rfl⟩
abbrev main_v312 : Ref sig .tc := ⟨.hbm, 396, rfl⟩
abbrev main_v313 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_v317 : Ref sig .tc := ⟨.hbm, 401, rfl⟩
abbrev main_v318 : Ref sig .tc := ⟨.hbm, 402, rfl⟩
abbrev main_v319 : Ref sig .tc := ⟨.hbm, 403, rfl⟩
abbrev main_v320 : Ref sig .tc := ⟨.hbm, 404, rfl⟩
abbrev main_v321 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_v325 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_v330 : Ref sig .tc := ⟨.hbm, 414, rfl⟩
abbrev main_v331 : Ref sig .tc := ⟨.hbm, 415, rfl⟩
abbrev main_v332 : Ref sig .tc := ⟨.hbm, 416, rfl⟩
abbrev main_v333 : Ref sig .tc := ⟨.hbm, 417, rfl⟩
abbrev main_v334 : Ref sig .tc := ⟨.hbm, 418, rfl⟩
abbrev main_v335 : Ref sig .tc := ⟨.hbm, 419, rfl⟩
abbrev main_v336 : Ref sig .tc := ⟨.hbm, 420, rfl⟩
abbrev main_v337 : Ref sig .tc := ⟨.hbm, 421, rfl⟩
abbrev main_v338 : Ref sig .tc := ⟨.hbm, 422, rfl⟩
abbrev main_v339 : Ref sig .tc := ⟨.hbm, 423, rfl⟩
abbrev main_v340 : Ref sig .tc := ⟨.hbm, 424, rfl⟩
abbrev main_v341 : Ref sig .tc := ⟨.hbm, 425, rfl⟩
abbrev main_cst_49 : Ref sig .tc := ⟨.hbm, 426, rfl⟩
abbrev main_v342 : Ref sig .tc := ⟨.hbm, 427, rfl⟩
abbrev main_v343 : Ref sig .tc := ⟨.hbm, 428, rfl⟩
abbrev main_cst_50 : Ref sig .tc := ⟨.hbm, 429, rfl⟩
abbrev main_v344 : Ref sig .tc := ⟨.hbm, 430, rfl⟩
abbrev main_v345 : Ref sig .tc := ⟨.hbm, 431, rfl⟩
abbrev main_cst_51 : Ref sig .tc := ⟨.hbm, 432, rfl⟩
abbrev main_v346 : Ref sig .tc := ⟨.hbm, 433, rfl⟩
abbrev main_v347 : Ref sig .tc := ⟨.hbm, 434, rfl⟩
abbrev main_cst_52 : Ref sig .tc := ⟨.hbm, 435, rfl⟩
abbrev main_v348 : Ref sig .tc := ⟨.hbm, 436, rfl⟩
abbrev main_v349 : Ref sig .tc := ⟨.hbm, 437, rfl⟩
abbrev main_cst_53 : Ref sig .tc := ⟨.hbm, 438, rfl⟩
abbrev main_v350 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩
abbrev main_cst_54 : Ref sig .tc := ⟨.hbm, 443, rfl⟩
abbrev main_v354 : Ref sig .tc := ⟨.hbm, 444, rfl⟩
abbrev main_v355 : Ref sig .tc := ⟨.hbm, 445, rfl⟩
abbrev main_v356 : Ref sig .tc := ⟨.hbm, 446, rfl⟩
abbrev main_cst_55 : Ref sig .tc := ⟨.hbm, 447, rfl⟩
abbrev main_v357 : Ref sig .tc := ⟨.hbm, 448, rfl⟩
abbrev main_v358 : Ref sig .tc := ⟨.hbm, 449, rfl⟩
abbrev main_v359 : Ref sig .tc := ⟨.hbm, 450, rfl⟩
abbrev main_v360 : Ref sig .tc := ⟨.hbm, 451, rfl⟩
abbrev main_cst_56 : Ref sig .tc := ⟨.hbm, 452, rfl⟩
abbrev main_v361 : Ref sig .tc := ⟨.hbm, 453, rfl⟩
abbrev main_cst_57 : Ref sig .tc := ⟨.hbm, 454, rfl⟩
abbrev main_v362 : Ref sig .tc := ⟨.hbm, 455, rfl⟩
abbrev main_v363 : Ref sig .tc := ⟨.hbm, 456, rfl⟩
abbrev main_cst_58 : Ref sig .tc := ⟨.hbm, 457, rfl⟩
abbrev main_v364 : Ref sig .tc := ⟨.hbm, 458, rfl⟩
abbrev main_cst_59 : Ref sig .tc := ⟨.hbm, 459, rfl⟩
abbrev main_v365 : Ref sig .tc := ⟨.hbm, 460, rfl⟩
abbrev main_cst_60 : Ref sig .tc := ⟨.hbm, 461, rfl⟩
abbrev main_cst_61 : Ref sig .tc := ⟨.hbm, 462, rfl⟩
abbrev main_call7_v0 : Ref sig .tc := ⟨.hbm, 463, rfl⟩
abbrev main_call7_v1 : Ref sig .tc := ⟨.hbm, 464, rfl⟩
abbrev main_call7_v2 : Ref sig .tc := ⟨.hbm, 465, rfl⟩
abbrev main_v366 : Ref sig .tc := ⟨.hbm, 466, rfl⟩
abbrev main_v367 : Ref sig .tc := ⟨.hbm, 467, rfl⟩
abbrev main_v368 : Ref sig .tc := ⟨.hbm, 468, rfl⟩
abbrev main_cst_62 : Ref sig .tc := ⟨.hbm, 469, rfl⟩
abbrev main_v369 : Ref sig .tc := ⟨.hbm, 470, rfl⟩
abbrev main_cst_63 : Ref sig .tc := ⟨.hbm, 471, rfl⟩
abbrev main_v370 : Ref sig .tc := ⟨.hbm, 472, rfl⟩
abbrev main_v371 : Ref sig .tc := ⟨.hbm, 473, rfl⟩
abbrev main_cst_64 : Ref sig .tc := ⟨.hbm, 474, rfl⟩
abbrev main_v372 : Ref sig .tc := ⟨.hbm, 475, rfl⟩
abbrev main_v373 : Ref sig .tc := ⟨.hbm, 476, rfl⟩
abbrev main_cst_65 : Ref sig .tc := ⟨.hbm, 477, rfl⟩
abbrev main_v374 : Ref sig .tc := ⟨.hbm, 478, rfl⟩
abbrev main_v375 : Ref sig .tc := ⟨.hbm, 479, rfl⟩
abbrev main_v376 : Ref sig .tc := ⟨.hbm, 480, rfl⟩
abbrev main_cst_66 : Ref sig .tc := ⟨.hbm, 481, rfl⟩
abbrev main_v377 : Ref sig .tc := ⟨.hbm, 482, rfl⟩
abbrev main_v378 : Ref sig .tc := ⟨.hbm, 483, rfl⟩
abbrev main_v379 : Ref sig .tc := ⟨.hbm, 484, rfl⟩
abbrev main_cst_67 : Ref sig .tc := ⟨.hbm, 485, rfl⟩
abbrev main_v380 : Ref sig .tc := ⟨.hbm, 486, rfl⟩
abbrev main_v381 : Ref sig .tc := ⟨.hbm, 487, rfl⟩
abbrev main_cst_68 : Ref sig .tc := ⟨.hbm, 488, rfl⟩
abbrev main_v382 : Ref sig .tc := ⟨.hbm, 489, rfl⟩
abbrev main_v383 : Ref sig .tc := ⟨.hbm, 490, rfl⟩
abbrev main_cst_69 : Ref sig .tc := ⟨.hbm, 491, rfl⟩
abbrev main_call8_v0 : Ref sig .tc := ⟨.hbm, 492, rfl⟩
abbrev main_call8_v1 : Ref sig .tc := ⟨.hbm, 493, rfl⟩
abbrev main_v384 : Ref sig .tc := ⟨.hbm, 494, rfl⟩
abbrev main_cst_70 : Ref sig .tc := ⟨.hbm, 495, rfl⟩
abbrev main_v385 : Ref sig .tc := ⟨.hbm, 496, rfl⟩
abbrev main_cst_71 : Ref sig .tc := ⟨.hbm, 497, rfl⟩
abbrev main_v386 : Ref sig .tc := ⟨.hbm, 498, rfl⟩
abbrev main_cst_72 : Ref sig .tc := ⟨.hbm, 499, rfl⟩
abbrev main_v387 : Ref sig .tc := ⟨.hbm, 500, rfl⟩
abbrev main_cst_73 : Ref sig .tc := ⟨.hbm, 501, rfl⟩
abbrev main_v388 : Ref sig .tc := ⟨.hbm, 502, rfl⟩
abbrev main_cst_74 : Ref sig .tc := ⟨.hbm, 503, rfl⟩
abbrev main_v389 : Ref sig .tc := ⟨.hbm, 504, rfl⟩
abbrev main_v390 : Ref sig .tc := ⟨.hbm, 505, rfl⟩
abbrev main_cst_75 : Ref sig .tc := ⟨.hbm, 506, rfl⟩
abbrev main_v391 : Ref sig .tc := ⟨.hbm, 507, rfl⟩
abbrev main_v392 : Ref sig .tc := ⟨.hbm, 508, rfl⟩
abbrev main_cst_76 : Ref sig .tc := ⟨.hbm, 509, rfl⟩
abbrev main_v393 : Ref sig .tc := ⟨.hbm, 510, rfl⟩
abbrev main_v394 : Ref sig .tc := ⟨.hbm, 511, rfl⟩

abbrev nD : Nat := 1
abbrev τ : Topo := Topo.v7x

variable {F : FTy → Type} [FloatOps F]
-- ==== Proof.Maths.lean ====
/- THE SUMS BOTH PROGRAMS ARE MADE OF. An image is read as a function of its row and column; `P` is the prediction's,
   `T` the target's, `w` the 11 × 11 window. Each quantity the loss needs of an image pair is a sum over rows of one of the
   functions below of the row. Nothing here is about a program. -/
module

public import Idealize.ShloMosaic.Lib.Pointwise

@[expose] public section

noncomputable section

namespace Cert.Image

open Idealize.ShloMosaic Finset

/-- The absolute value of an extended real. -/
def mag (x : EReal) : EReal := max x (-x)

/-- A value of `[-1, 1]` as one of the whole numbers 0 … 255. -/
def quant (x : EReal) : EReal :=
  Ideal.liftRound Int.floor
    (min (Ideal.ofBits .f32 0x437F0000#32)
      (max 0
        (min 1 (max 0 ((min 1 (max (Ideal.ofBits .f32 0xBF800000#32) x) + 1) * Ideal.ofBits .f32 0x3F000000#32))
          * Ideal.ofBits .f32 0x437F0000#32)))

/-- The structural similarity of two windows, of their means and second moments. -/
def similarity (m₁ m₂ e₁₁ e₂₂ e₁₂ : EReal) : EReal :=
  Ideal.div
    ((Ideal.ofBits .f32 0x40000000#32 * (m₁ * m₂) + Ideal.ofBits .f32 0x40D0147B#32)
      * (Ideal.ofBits .f32 0x40000000#32 * (e₁₂ - m₁ * m₂) + Ideal.ofBits .f32 0x426A170A#32))
    ((m₁ * m₁ + m₂ * m₂ + Ideal.ofBits .f32 0x40D0147B#32)
      * (e₁₁ - m₁ * m₁ + (e₂₂ - m₂ * m₂) + Ideal.ofBits .f32 0x426A170A#32))

/-- The weighted sum of the 11 × 11 window of `s` whose first corner is row `i`, column `c`. -/
def window (w s : ℕ → ℕ → EReal) (i c : ℕ) : EReal :=
  ∑ b ∈ range 11, ∑ a ∈ range 11, w a b * s (i + a) (c + b)

variable (w P T : ℕ → ℕ → EReal)

/-- The structural similarity of the quantised images at the window of row `i`, column `c`. -/
def ssimAt (i c : ℕ) : EReal :=
  similarity (window w (fun i c => quant (P i c)) i c) (window w (fun i c => quant (T i c)) i c)
    (window w (fun i c => quant (P i c) * quant (P i c)) i c) (window w (fun i c => quant (T i c) * quant (T i c)) i c)
    (window w (fun i c => quant (P i c) * quant (T i c)) i c)

/-- Row `i` of the absolute difference. -/
def rowAbs (i : ℕ) : EReal := ∑ c ∈ range 2048, mag (P i c - T i c)

/-- Row `i` of the difference's change from row to row: the last row has none. -/
def rowDown (i : ℕ) : EReal := ∑ c ∈ range 2048, if i < 2047 then mag (P i c - T i c - (P (i + 1) c - T (i + 1) c)) else 0

/-- Row `i` of the difference's change from column to column. -/
def rowAcross (i : ℕ) : EReal := ∑ c ∈ range 2047, mag (P i c - T i c - (P i (c + 1) - T i (c + 1)))

/-- Row `i` of an image. -/
def rowSum (i : ℕ) : EReal := ∑ c ∈ range 2048, P i c

/-- Row `i` of an image's squares. -/
def rowSq (i : ℕ) : EReal := ∑ c ∈ range 2048, P i c * P i c

/-- Row `i` of what the prediction's absolute value exceeds 1 by. -/
def rowOver (i : ℕ) : EReal := ∑ c ∈ range 2048, max (mag (P i c) - 1) 0

/-- Row `i` of the quantised images' squared difference. -/
def rowErr (i : ℕ) : EReal := ∑ c ∈ range 2048, (quant (P i c) - quant (T i c)) * (quant (P i c) - quant (T i c))

/-- Row `i` of the structural similarity: 2038 windows, none in the last ten rows. -/
def rowSsim (i : ℕ) : EReal := ∑ c ∈ range 2048, if i < 2038 ∧ c < 2038 then ssimAt w P T i c else 0

/-! ## Sums over rows -/

/-- A sum over 16 blocks of 128 rows is the sum over 2048 rows. -/
theorem sum_blocks (f : ℕ → EReal) : ∑ j : Fin 16, ∑ r ∈ range 128, f (128 * j.val + r) = ∑ i ∈ range 2048, f i := by
  have h : ∀ n, ∑ j ∈ range n, ∑ r ∈ range 128, f (128 * j + r) = ∑ i ∈ range (128 * n), f i := by
    intro n
    induction n with
    | zero => rfl
    | succ n ih => rw [sum_range_succ, ih, Nat.mul_succ, sum_range_add]
  rw [← h 16, sum_range]

/-- A sum of which only the first `M` terms count. -/
theorem sum_first (f : ℕ → EReal) {M N : ℕ} (h : M ≤ N) : ∑ i ∈ range N, (if i < M then f i else 0) = ∑ i ∈ range M, f i := by
  rw [← sum_filter]
  congr 1
  ext i
  simp only [mem_filter, mem_range]
  omega

theorem sum_rowDown : ∑ i ∈ range 2048, rowDown P T i
    = ∑ i ∈ range 2047, ∑ c ∈ range 2048, mag (P i c - T i c - (P (i + 1) c - T (i + 1) c)) := by
  rw [← sum_first _ (by omega : 2047 ≤ 2048)]
  refine sum_congr rfl fun i _ => ?_
  unfold rowDown
  split_ifs
  · rfl
  · exact sum_const_zero

theorem sum_rowSsim : ∑ i ∈ range 2048, rowSsim w P T i = ∑ i ∈ range 2038, ∑ c ∈ range 2038, ssimAt w P T i c := by
  rw [← sum_first _ (by omega : 2038 ≤ 2048)]
  refine sum_congr rfl fun i _ => ?_
  unfold rowSsim
  by_cases hi : i < 2038
  · rw [if_pos hi, ← sum_first _ (by omega : 2038 ≤ 2048)]
    exact sum_congr rfl fun c _ => by simp only [hi, true_and]
  · rw [if_neg hi]
    exact sum_eq_zero fun c _ => if_neg fun h => hi h.1

end Cert.Image

end
-- ==== Proof.BlockRead.lean ====
/- WHAT ONE BLOCK OF THE FIRST CALL COMPUTES, PIECE BY PIECE: 128 rows of an image pair, with the sixteen rows below them,
   at an index. `P` and `T` are the images as functions of row and column, and `j` the number of the block: its rows are
   `128 j … 128 j + 127`. -/
module

public import proofs.«01_k».proof.Proof.Gen.KernelIdeal.Skeleton
public import proofs.«01_k».proof.Proof.Maths

@[expose] public section

noncomputable section

namespace Cert.KernelIdeal.Value

open Idealize.ShloMosaic Cert.KernelIdeal Cert.KernelIdeal.Gen Cert.Image Finset

/-- Row `r` of a block's 128 rows and the sixteen below them. -/
def ext (x : FVec Ideal S1x128x2048 .f32) (y : FVec Ideal S1x16x2048 .f32) (r : Fin 144) (c : Fin 2048) : EReal :=
  if h : r.val < 128 then x (ix3 0 ⟨r.val, h⟩ c) else y (ix3 0 ⟨r.val - 128, by omega⟩ c)

/-- The block's rows are the image's, as far as the image goes. -/
def Rows (P : ℕ → ℕ → EReal) (j : ℕ) (x : FVec Ideal S1x128x2048 .f32) (y : FVec Ideal S1x16x2048 .f32) : Prop :=
  ∀ (r : Fin 144) (c : Fin 2048), 128 * j + r.val < 2048 → ext x y r c = P (128 * j + r.val) c.val

theorem pay1_apply (x : FVec Ideal S1x128x2048 .f32) (y : FVec Ideal S1x16x2048 .f32) (r : Fin 144) (c : Fin 2048) :
    k0_pay1 (F := Ideal) x y (ix2 r c) = ext x y r c := by
  pointwise [k0_pay1]
  rfl

theorem pay2_apply (x : FVec Ideal S1x128x2048 .f32) (y : FVec Ideal S1x16x2048 .f32) (r : Fin 144) (c : Fin 2048) :
    k0_pay2 (F := Ideal) x y (ix2 r c) = ext x y r c := by
  pointwise [k0_pay2]
  rfl

theorem pay17_apply (x : FVec Ideal S144x2048 .f32) (r : Fin 144) (c : Fin 2048) :
    k0_pay17 (F := Ideal) (k0_pay16 x) (FloatOps.ofBits FTy.f32 0#32) (ix2 r c) = quant (x (ix2 r c)) := by
  pointwise [k0_pay16, k0_pay17]
  rfl

theorem pay17_apply' (x : FVec Ideal S144x2048 .f32) (r : Fin 144) (c : Fin 2048) :
    k0_pay17 (F := Ideal) (k0_pay16 x) (0 : EReal) (ix2 r c) = quant (x (ix2 r c)) := by
  pointwise [k0_pay16, k0_pay17]
  rfl

theorem pay18_apply (x : FVec Ideal S144x2048 .f32) (r : Fin 144) (c : Fin 2048) :
    k0_pay18 (F := Ideal) x (ix2 r c) = quant (x (ix2 r c)) := by
  pointwise [k0_pay18]
  rfl

/-! ## The masks -/

/-- A row's word is below `H - 128 j` exactly when the image's row is below `H`. -/
theorem mask_row (j r H : ℕ) (hj : j < 16) (hr : r < 128) (h1 : 1920 ≤ H) (h2 : H ≤ 2048) :
    IntOp.cmpi .slt (BitVec.ofNat 32 r) (Scalar.subi (BitVec.ofNat 32 H) (Scalar.muli (BitVec.ofNat 32 j) 128#32))
      = if 128 * j + r < H then 1#1 else 0#1 := by
  have e : Scalar.subi (BitVec.ofNat 32 H) (Scalar.muli (BitVec.ofNat 32 j) 128#32) = BitVec.ofNat 32 (H - 128 * j) := by
    apply BitVec.eq_of_toNat_eq
    simp only [Scalar.subi, Scalar.muli, IntOp.subi, IntOp.muli, BitVec.toNat_sub, BitVec.toNat_mul, BitVec.toNat_ofNat]
    omega
  rw [e]
  have t1 : (BitVec.ofNat 32 r).toInt = r := by rw [BitVec.toInt_ofNat']; exact Int.bmod_eq_of_le (by omega) (by omega)
  have t2 : (BitVec.ofNat 32 (H - 128 * j)).toInt = ((H - 128 * j : ℕ) : ℤ) := by
    rw [BitVec.toInt_ofNat']; exact Int.bmod_eq_of_le (by omega) (by omega)
  simp only [IntOp.cmpi, BitVec.slt, t1, t2]
  by_cases h : 128 * j + r < H
  · rw [if_pos h, decide_eq_true (by omega)]; rfl
  · rw [if_neg h, decide_eq_false (by omega)]; rfl

theorem mask_col (c : ℕ) (hc : c < 2048) :
    IntOp.cmpi .slt (BitVec.ofNat 32 c) 2038#32 = if c < 2038 then 1#1 else 0#1 := by
  have t1 : (BitVec.ofNat 32 c).toInt = c := by rw [BitVec.toInt_ofNat']; exact Int.bmod_eq_of_le (by omega) (by omega)
  have t2 : (2038#32).toInt = 2038 := by decide
  simp only [IntOp.cmpi, BitVec.slt, t1, t2]
  by_cases h : c < 2038
  · rw [if_pos h, decide_eq_true (by omega)]; rfl
  · rw [if_neg h, decide_eq_false (by omega)]; rfl

/-! ## The plain sums -/

section Sums

variable {P T : ℕ → ℕ → EReal} {j : ℕ} (hj : j < 16)
  {x : FVec Ideal S1x128x2048 .f32} {y : FVec Ideal S1x16x2048 .f32} (hP : Rows P j x y)
  {x' : FVec Ideal S1x128x2048 .f32} {y' : FVec Ideal S1x16x2048 .f32} (hT : Rows T j x' y')

include hj hP in
theorem row_apply (r : Fin 128) (c : Fin 2048) : ext x y ⟨r.val, by omega⟩ c = P (128 * j + r.val) c.val :=
  hP ⟨r.val, by omega⟩ c (by show 128 * j + r.val < 2048; omega)

include hj hP hT in
theorem abs_block : k0_pay7 (F := Ideal) x y x' y' = ∑ r ∈ range 128, rowAbs P T (128 * j + r) := by
  pointwise [k0_pay7, k0_pay6, k0_pay5]
  rw [sum_range]
  refine sum_congr rfl fun r _ => ?_
  unfold rowAbs
  rw [sum_range]
  refine sum_congr rfl fun c _ => ?_
  rw [pay1_apply, pay2_apply]
  rw [row_apply hj hP, row_apply hj hT]
  rfl

include hj hP in
theorem sum_block : k0_pay8 (F := Ideal) x y = ∑ r ∈ range 128, rowSum P (128 * j + r) := by
  pointwise [k0_pay8, k0_pay3]
  rw [sum_range]
  refine sum_congr rfl fun r _ => ?_
  unfold rowSum
  rw [sum_range]
  exact sum_congr rfl fun c _ => (pay1_apply x y _ c).trans (row_apply hj hP r c)

include hj hT in
theorem sum_block' : k0_pay9 (F := Ideal) x' y' = ∑ r ∈ range 128, rowSum T (128 * j + r) := by
  pointwise [k0_pay9, k0_pay4]
  rw [sum_range]
  refine sum_congr rfl fun r _ => ?_
  unfold rowSum
  rw [sum_range]
  exact sum_congr rfl fun c _ => (pay2_apply x' y' _ c).trans (row_apply hj hT r c)

include hj hP in
theorem sq_block : k0_pay10 (F := Ideal) x y = ∑ r ∈ range 128, rowSq P (128 * j + r) := by
  pointwise [k0_pay10, k0_pay3]
  rw [sum_range]
  refine sum_congr rfl fun r _ => ?_
  unfold rowSq
  rw [sum_range]
  refine sum_congr rfl fun c _ => ?_
  rw [pay1_apply, row_apply hj hP]

include hj hT in
theorem sq_block' : k0_pay11 (F := Ideal) x' y' = ∑ r ∈ range 128, rowSq T (128 * j + r) := by
  pointwise [k0_pay11, k0_pay4]
  rw [sum_range]
  refine sum_congr rfl fun r _ => ?_
  unfold rowSq
  rw [sum_range]
  refine sum_congr rfl fun c _ => ?_
  rw [pay2_apply, row_apply hj hT]

include hj hP in
theorem over_block : k0_pay13 (F := Ideal) (k0_pay12 x y) (FloatOps.ofBits FTy.f32 0x3F800000#32)
    = ∑ r ∈ range 128, rowOver P (128 * j + r) := by
  pointwise [k0_pay13, k0_pay12, k0_pay3]
  rw [sum_range]
  refine sum_congr rfl fun r _ => ?_
  unfold rowOver
  rw [sum_range]
  refine sum_congr rfl fun c _ => ?_
  rw [pay1_apply, row_apply hj hP]
  rfl

include hj hP hT in
theorem down_block : k0_pay14 (F := Ideal) (BitVec.ofNat 32 j) (k0_pay5 x y x' y')
    = ∑ r ∈ range 128, rowDown P T (128 * j + r) := by
  pointwise [k0_pay14, k0_pay5]
  rw [sum_range]
  refine sum_congr rfl fun r _ => ?_
  unfold rowDown
  rw [sum_range]
  refine sum_congr rfl fun c _ => ?_
  rw [mask_row j r.val 2047 hj r.isLt (by omega) (by omega)]
  by_cases h : 128 * j + r.val < 2047
  · rw [if_pos h, if_pos h, pay1_apply, pay2_apply, pay1_apply, pay2_apply, hP _ _ (by show 128 * j + r.val < 2048; omega),
      hT _ _ (by show 128 * j + r.val < 2048; omega), hP _ _ (by show 128 * j + (1 + r.val) < 2048; omega),
      hT _ _ (by show 128 * j + (1 + r.val) < 2048; omega)]
    show mag _ = mag _
    rw [show 128 * j + (1 + r.val) = 128 * j + r.val + 1 by omega]
  · rw [if_neg h, if_neg h]
    rfl

include hj hP hT in
theorem across_block : k0_pay15 (F := Ideal) (k0_pay6 x y x' y') = ∑ r ∈ range 128, rowAcross P T (128 * j + r) := by
  pointwise [k0_pay15, k0_pay6, k0_pay5]
  rw [sum_range]
  refine sum_congr rfl fun r _ => ?_
  unfold rowAcross
  rw [sum_range]
  refine sum_congr rfl fun c _ => ?_
  rw [pay1_apply, pay2_apply, pay1_apply, pay2_apply, row_apply hj hP, row_apply hj hT, row_apply hj hP, row_apply hj hT]
  show mag (_ - _ - (P _ (1 + c.val) - T _ (1 + c.val))) = mag _
  rw [Nat.add_comm 1]

include hj hP hT in
theorem err_block : k0_pay19 (F := Ideal) (k0_pay2 x' y') (k0_pay16 (k0_pay1 x y)) (FloatOps.ofBits FTy.f32 0#32)
    = ∑ r ∈ range 128, rowErr P T (128 * j + r) := by
  pointwise [k0_pay19]
  rw [sum_range]
  refine sum_congr rfl fun r _ => ?_
  unfold rowErr
  rw [sum_range]
  refine sum_congr rfl fun c _ => ?_
  rw [pay17_apply', pay18_apply, pay1_apply, pay2_apply, row_apply hj hP, row_apply hj hT]

end Sums

/-- The sum of the map where the mask holds. -/
theorem ssim_block (w P T : ℕ → ℕ → EReal) {j : ℕ} (hj : j < 16) (M : FVec Ideal S128x2048 .f32)
    (hM : ∀ (r : Fin 128) (c : Fin 2048), 128 * j + r.val < 2038 → c.val < 2038 →
      M (ix2 r c) = ssimAt w P T (128 * j + r.val) c.val) :
    ∑ r : Fin 128, ∑ c : Fin 2048,
        Scalar.select (k0_pay39 (BitVec.ofNat 32 j) (ix2 r c)) (M (ix2 r c)) (k0_pay40 (F := Ideal) (ix2 r c))
      = ∑ r ∈ range 128, rowSsim w P T (128 * j + r) := by
  rw [sum_range]
  refine sum_congr rfl fun r _ => ?_
  unfold rowSsim
  rw [sum_range]
  refine sum_congr rfl fun c _ => ?_
  pointwise [k0_pay39, k0_pay40]
  rw [mask_row j r.val 2038 hj r.isLt (by omega) (by omega), mask_col c.val c.isLt]
  by_cases h : 128 * j + r.val < 2038
  · by_cases h' : c.val < 2038
    · simp only [if_pos h, if_pos h', if_pos (And.intro h h'), hM r c h h']
      rfl
    · simp only [if_pos h, if_neg h', if_neg (fun e : _ ∧ _ => h' e.2)]
      rfl
  · by_cases h' : c.val < 2038
    · simp only [if_neg h, if_pos h', if_neg (fun e : _ ∧ _ => h e.1)]
      rfl
    · simp only [if_neg h, if_neg h', if_neg (fun e : _ ∧ _ => h e.1)]
      rfl

/-- The block's ten sums lie in the first ten of the 128 lanes, in this order. -/
theorem lanes_apply (a b c d e f g h i : EReal) (x z : FVec Ideal S128x2048 .f32) (y : IVec S128x2048 1) (l : Fin 128) (s : EReal)
    (hs : ∑ r : Fin 128, ∑ c : Fin 2048, Scalar.select (y (ix2 r c)) (x (ix2 r c)) (z (ix2 r c)) = s) :
    k0_pay41 (F := Ideal) a b c d e f g h i x y z (ix4 0 0 0 l)
      = (if l.val = 9 then s else if l.val = 8 then i else if l.val = 7 then f else if l.val = 6 then e else if l.val = 5 then d
        else if l.val = 4 then c else if l.val = 3 then b else if l.val = 2 then h else if l.val = 1 then g
        else if l.val = 0 then a else 0) := by
  have key : ∀ (k : ℕ) (u v : EReal), k < 128 →
      Scalar.select (IntOp.cmpi CmpIPredicate.eq (BitVec.ofNat 32 l.val) (BitVec.ofNat 32 k)) u v = if l.val = k then u else v := by
    intro k u v hk
    by_cases h : l.val = k
    · rw [if_pos h, h]; simp [IntOp.cmpi, Scalar.select]
    · rw [if_neg h]
      have : BitVec.ofNat 32 l.val ≠ BitVec.ofNat 32 k := fun h' => h <| by
        have := congrArg BitVec.toNat h'
        simp only [BitVec.toNat_ofNat] at this
        omega
      simp only [IntOp.cmpi, Scalar.select, beq_false_of_ne this]
      rfl
  pointwise [k0_pay41]
  rw [hs]
  simp only [key _ _ _ (by omega : 9 < 128), key _ _ _ (by omega : 8 < 128), key _ _ _ (by omega : 7 < 128),
    key _ _ _ (by omega : 6 < 128), key _ _ _ (by omega : 5 < 128), key _ _ _ (by omega : 4 < 128),
    key _ _ _ (by omega : 3 < 128), key _ _ _ (by omega : 2 < 128), key _ _ _ (by omega : 1 < 128), key _ _ _ (by omega : 0 < 128)]

/-! ## The windows -/

section Windows

/-- The band matrix, as the matrix unit reads it: column `b` of the window, shifted down the rows of band `b`. -/
def Bands (w : ℕ → ℕ → EReal) (v : FVec Ideal S1408x144 .bf16) : Prop :=
  ∀ (b r : ℕ) (hb : b < 11) (hr : r < 128) (k : Fin 144),
    v (ix2 ⟨128 * b + r, by omega⟩ k) = if r ≤ k.val ∧ k.val ≤ r + 10 then w (k.val - r) b else 0

/-- A row of a band times a column of the signal is a column of the window times eleven of its rows. -/
theorem band_sum {w : ℕ → ℕ → EReal} {v : FVec Ideal S1408x144 .bf16} (hv : Bands w v) (s : ℕ → EReal) (b r : ℕ) (hb : b < 11)
    (hr : r < 128) :
    ∑ k : Fin 144, v (ix2 ⟨128 * b + r, by omega⟩ k) * s k.val = ∑ a ∈ range 11, w a b * s (r + a) := by
  have e : ∀ k : Fin 144, v (ix2 ⟨128 * b + r, by omega⟩ k) * s k.val
      = (fun n => if r ≤ n ∧ n ≤ r + 10 then w (n - r) b * s n else 0) k.val := fun k => by
    rw [hv b r hb hr k]
    show _ = if _ then _ else _
    split_ifs
    · rfl
    · exact zero_mul _
  rw [sum_congr rfl fun k _ => e k, ← sum_range (fun n => if r ≤ n ∧ n ≤ r + 10 then w (n - r) b * s n else 0), ← sum_filter,
    show (range 144).filter (fun n => r ≤ n ∧ n ≤ r + 10) = Finset.Ico (0 + r) (11 + r) from by
      ext n; simp only [mem_filter, mem_range, mem_Ico]; omega,
    ← Finset.sum_Ico_add' (fun n => w (n - r) b * s n) 0 11 r, ← range_eq_Ico]
  refine sum_congr rfl fun a _ => ?_
  rw [Nat.add_sub_cancel, Nat.add_comm a r]

end Windows

end Cert.KernelIdeal.Value

end
-- ==== Proof.Block.lean ====
/- WHAT THE FIRST CALL LEAVES OF ONE BLOCK: ten sums in the first ten lanes of a row of 128. The windows' sums go through
   a scratch array: a matrix product of the band matrix with the signal fills its first 2048 columns, and eleven loads of
   128 rows, each a column further right than the one before, are added up. -/
module

public import proofs.«01_k».proof.Proof.Gen.KernelIdeal.Frame
public import proofs.«01_k».proof.Proof.BlockRead
public import Idealize.ShloMosaic.Lib.WritesUnit

@[expose] public section

set_option maxRecDepth 16384

noncomputable section

namespace Cert.KernelIdeal.Value

open Idealize.ShloMosaic Idealize.ShloMosaic.Tactic Cert.KernelIdeal Cert.KernelIdeal.Gen Cert.Image Finset

/-- A load of the whole of a staged block reads the block. -/
theorem readAt_full {sp : Space} {s : Shape} {e : EltTy} {m : Memref sig .tc sp s e} (h : m.IsWhole) (X : s.Idx → Elt Ideal e)
    {off : Fin s.rank → ℕ} (inb : ∀ a, off a + s.size a ≤ s.size a) :
    View.readAt (Elt Ideal) m.view (Rect.unit (s := s) off s.size inb).toLoadRect (h.unread X) = X := by
  funext y
  rw [View.readAt_apply, h.read_unread]
  congr 1
  funext a
  apply Fin.ext
  have := inb a
  show off a + 1 * (y a).val = (y a).val
  omega

/-- A load of 128 rows from row `o` and column `b` on, of a scratch array whose first 2048 columns were stored last, reads
    what was stored there. -/
theorem readCov_left (v : View sig .tc .vmem S1408x2176 .f32) (W : FVec Ideal S1408x2048 .f32)
    (L : List (View.Piece (Elt Ideal) S1408x2176 .f32)) (o b : ℕ)
    (inb : ∀ a, (![0, 0] : Fin 2 → ℕ) a + S1408x2048.size a ≤ S1408x2176.size a)
    (inb' : ∀ a, (![o, b] : Fin 2 → ℕ) a + S128x2048.size a ≤ S1408x2176.size a)
    (r : Fin 128) (c : Fin 2048) (ho : o + r.val < 1408) (hb : b + c.val < 2048) :
    v.readCov (Val := Elt Ideal) (⟨Rect.unit (s := S1408x2176) ![0, 0] S1408x2048.size inb, W⟩ :: L)
        (Rect.unit (s := S1408x2176) ![o, b] S128x2048.size inb').toLoadRect (ix2 r c)
      = W (ix2 ⟨o + r.val, ho⟩ ⟨b + c.val, hb⟩) :=
  View.read_writes_cons_unit_of_mem v v.junk inb W L _ (ix2 ⟨o + r.val, ho⟩ ⟨b + c.val, hb⟩) rfl
    (Fin.forall_fin_two.mpr ⟨by
      show o + 1 * r.val = 0 + (o + r.val)
      omega, by
      show b + 1 * c.val = 0 + (b + c.val)
      omega⟩)

/-- The same after the matrix product: column `b` of the window times eleven rows of the signal. -/
theorem read_window {w : ℕ → ℕ → EReal} {x4 : FVec Ideal S1408x144 .bf16} (hv : Bands w x4) {j : ℕ}
    {sg : FVec Ideal S144x2048 .bf16} {S : ℕ → ℕ → EReal}
    (hS : ∀ (k : Fin 144) (c : Fin 2048), 128 * j + k.val < 2048 → sg (ix2 k c) = S (128 * j + k.val) c.val)
    (v : View sig .tc .vmem S1408x2176 .f32)
    (L : List (View.Piece (Elt Ideal) S1408x2176 .f32)) (o b : ℕ)
    (inb : ∀ a, (![0, 0] : Fin 2 → ℕ) a + S1408x2048.size a ≤ S1408x2176.size a)
    (inb' : ∀ a, (![o, b] : Fin 2 → ℕ) a + S128x2048.size a ≤ S1408x2176.size a)
    (r : Fin 128) (c : Fin 2048) (hb : b < 11) (ho : o = 128 * b) (hr : 128 * j + r.val < 2038) (hc : c.val < 2038) :
    v.readCov (Val := Elt Ideal) (⟨Rect.unit (s := S1408x2176) ![0, 0] S1408x2048.size inb, k0_pay26 (F := Ideal) x4 sg⟩ :: L)
        (Rect.unit (s := S1408x2176) ![o, b] S128x2048.size inb').toLoadRect (ix2 r c)
      = ∑ a ∈ range 11, w a b * S (128 * j + r.val + a) (c.val + b) := by
  subst ho
  rw [readCov_left v _ L (128 * b) b inb inb' r c (by omega) (by omega)]
  pointwise [k0_pay26]
  have key := band_sum hv (fun n => if h : n < 144 then sg (ix2 ⟨n, h⟩ ⟨b + c.val, by omega⟩) else 0) b r.val hb r.isLt
  refine Eq.trans (sum_congr rfl fun k _ => ?_) (key.trans (sum_congr rfl fun a ha => ?_))
  · show _ * _ = _ * (if h : k.val < 144 then _ else _)
    rw [dif_pos k.isLt]
  · have ha' : a < 11 := mem_range.mp ha
    show _ * (if h : r.val + a < 144 then _ else _) = _
    rw [dif_pos (by omega), hS _ _ (by show 128 * j + (r.val + a) < 2048; omega)]
    show _ * S (128 * j + (r.val + a)) (b + c.val) = _
    rw [← Nat.add_assoc, Nat.add_comm b]

section Signals

variable {P T : ℕ → ℕ → EReal} {j : ℕ} {x : FVec Ideal S1x128x2048 .f32} {y : FVec Ideal S1x16x2048 .f32} (hP : Rows P j x y)
  {x' : FVec Ideal S1x128x2048 .f32} {y' : FVec Ideal S1x16x2048 .f32} (hT : Rows T j x' y')

include hP in
theorem sig1 (k : Fin 144) (c : Fin 2048) (h : 128 * j + k.val < 2048) :
    k0_pay21 (F := Ideal) (k0_pay16 (k0_pay1 x y)) (FloatOps.ofBits FTy.f32 0#32) (ix2 k c) = quant (P (128 * j + k.val) c.val) := by
  show k0_pay17 (F := Ideal) (k0_pay16 (k0_pay1 x y)) (FloatOps.ofBits FTy.f32 0#32) (ix2 k c) = _
  rw [pay17_apply, pay1_apply, hP k c h]

include hT in
theorem sig2 (k : Fin 144) (c : Fin 2048) (h : 128 * j + k.val < 2048) :
    k0_pay22 (F := Ideal) (k0_pay2 x' y') (ix2 k c) = quant (T (128 * j + k.val) c.val) := by
  show k0_pay18 (F := Ideal) (k0_pay2 x' y') (ix2 k c) = _
  rw [pay18_apply, pay2_apply, hT k c h]

include hP in
theorem sig3 (k : Fin 144) (c : Fin 2048) (h : 128 * j + k.val < 2048) :
    k0_pay23 (F := Ideal) (k0_pay16 (k0_pay1 x y)) (FloatOps.ofBits FTy.f32 0#32) (ix2 k c)
      = (fun i c => quant (P i c) * quant (P i c)) (128 * j + k.val) c.val := by
  show k0_pay17 (F := Ideal) (k0_pay16 (k0_pay1 x y)) (FloatOps.ofBits FTy.f32 0#32) (ix2 k c)
    * k0_pay17 (F := Ideal) (k0_pay16 (k0_pay1 x y)) (FloatOps.ofBits FTy.f32 0#32) (ix2 k c) = _
  rw [pay17_apply, pay1_apply, hP k c h]

include hT in
theorem sig4 (k : Fin 144) (c : Fin 2048) (h : 128 * j + k.val < 2048) :
    k0_pay24 (F := Ideal) (k0_pay2 x' y') (ix2 k c) = (fun i c => quant (T i c) * quant (T i c)) (128 * j + k.val) c.val := by
  show k0_pay18 (F := Ideal) (k0_pay2 x' y') (ix2 k c) * k0_pay18 (F := Ideal) (k0_pay2 x' y') (ix2 k c) = _
  rw [pay18_apply, pay2_apply, hT k c h]

include hP hT in
theorem sig5 (k : Fin 144) (c : Fin 2048) (h : 128 * j + k.val < 2048) :
    k0_pay25 (F := Ideal) (k0_pay17 (k0_pay16 (k0_pay1 x y)) (FloatOps.ofBits FTy.f32 0#32)) (k0_pay18 (k0_pay2 x' y')) (ix2 k c)
      = (fun i c => quant (P i c) * quant (T i c)) (128 * j + k.val) c.val := by
  show k0_pay17 (F := Ideal) (k0_pay16 (k0_pay1 x y)) (FloatOps.ofBits FTy.f32 0#32) (ix2 k c)
    * k0_pay18 (F := Ideal) (k0_pay2 x' y') (ix2 k c) = _
  rw [pay17_apply, pay1_apply, hP k c h, pay18_apply, pay2_apply, hT k c h]

end Signals

/-- Eleven loads added up, from the left. -/
theorem sum11 (v0 v1 v2 v3 v4 v5 v6 v7 v8 v9 v10 : FVec Ideal S128x2048 .f32) (r : Fin 128) (c : Fin 2048) (Z : ℕ → EReal)
    (h0 : v0 (ix2 r c) = Z 0) (h1 : v1 (ix2 r c) = Z 1) (h2 : v2 (ix2 r c) = Z 2) (h3 : v3 (ix2 r c) = Z 3)
    (h4 : v4 (ix2 r c) = Z 4) (h5 : v5 (ix2 r c) = Z 5) (h6 : v6 (ix2 r c) = Z 6) (h7 : v7 (ix2 r c) = Z 7)
    (h8 : v8 (ix2 r c) = Z 8) (h9 : v9 (ix2 r c) = Z 9) (h10 : v10 (ix2 r c) = Z 10) :
    k0_pay27 (F := Ideal) v0 v1 v2 v3 v4 v5 v6 v7 v8 v9 v10 (ix2 r c) = ∑ b ∈ range 11, Z b := by
  pointwise [k0_pay27]
  simp only [sum_range_succ, sum_range_zero, zero_add, h0, h1, h2, h3, h4, h5, h6, h7, h8, h9, h10]

/-- The map, of the two means and the three second moments. -/
theorem map_apply (m₁ m₂ e₁₁ e₂₂ v0 v1 v2 v3 v4 v5 v6 v7 v8 v9 v10 : FVec Ideal S128x2048 .f32) (i : S128x2048.Idx) :
    k0_pay38 (F := Ideal) m₁ m₂ e₁₁ e₂₂ (k0_pay37 v0 v1 v2 v3 v4 v5) v6 v7 v8 v9 v10 i
      = similarity (m₁ i) (m₂ i) (e₁₁ i) (e₂₂ i) (k0_pay27 (F := Ideal) v0 v1 v2 v3 v4 v5 v6 v7 v8 v9 v10 i) := rfl

/-- The ten sums of block `j`. -/
def lanes (w P T : ℕ → ℕ → EReal) (j l : ℕ) : EReal :=
  if l = 9 then ∑ r ∈ range 128, rowSsim w P T (128 * j + r) else if l = 8 then ∑ r ∈ range 128, rowErr P T (128 * j + r)
  else if l = 7 then ∑ r ∈ range 128, rowOver P (128 * j + r) else if l = 6 then ∑ r ∈ range 128, rowSq T (128 * j + r)
  else if l = 5 then ∑ r ∈ range 128, rowSq P (128 * j + r) else if l = 4 then ∑ r ∈ range 128, rowSum T (128 * j + r)
  else if l = 3 then ∑ r ∈ range 128, rowSum P (128 * j + r) else if l = 2 then ∑ r ∈ range 128, rowAcross P T (128 * j + r)
  else if l = 1 then ∑ r ∈ range 128, rowDown P T (128 * j + r) else if l = 0 then ∑ r ∈ range 128, rowAbs P T (128 * j + r)
  else 0

/-- What the body leaves in the output's block. -/
theorem block_apply (c : Dev nD) (i : grid0.Coords) (arg2 : Memref sig .tc .vmem S1x128x2048 .f32) (harg2 : arg2.IsWhole)
    (arg3 : Memref sig .tc .vmem S1x16x2048 .f32) (harg3 : arg3.IsWhole) (arg4 : Memref sig .tc .vmem S1x128x2048 .f32)
    (harg4 : arg4.IsWhole) (arg5 : Memref sig .tc .vmem S1x16x2048 .f32) (harg5 : arg5.IsWhole)
    (arg6 : Memref sig .tc .vmem S1408x144 .bf16) (harg6 : arg6.IsWhole) (arg7 : Memref sig .tc .vmem S1x1x1x128 .f32)
    (harg7 : arg7.IsWhole) (arg8 : Memref sig .tc .vmem S1408x2176 .f32) (harg8 : arg8.IsWhole)
    (x0 : Vec Ideal S1x128x2048 .f32) (x1 : Vec Ideal S1x16x2048 .f32) (x2 : Vec Ideal S1x128x2048 .f32)
    (x3 : Vec Ideal S1x16x2048 .f32) (x4 : Vec Ideal S1408x144 .bf16)
    {w P T : ℕ → ℕ → EReal} {j : ℕ} (hj : j < 16) (hi : (i 1).val = j)
    (hP : Rows P j x0 x1) (hT : Rows T j x2 x3) (hv : Bands w x4) (l : Fin 128) :
    out0_A_5 c i arg2 harg2 arg3 harg3 arg4 harg4 arg5 harg5 arg6 harg6 arg7 harg7 arg8 harg8 x0 x1 x2 x3 x4 (ix4 0 0 0 l)
      = lanes w P T j l.val := by
  unfold out0_A_5 kernelRun0_A
  dsimp only
  sl_unfold_run_names
  have e0 := readAt_full harg2 x0 inb_S1x128x2048_S1x128x2048_0_0_0
  have e1 := readAt_full harg3 x1 inb_S1x16x2048_S1x16x2048_0_0_0
  have e2 := readAt_full harg4 x2 inb_S1x128x2048_S1x128x2048_0_0_0
  have e3 := readAt_full harg5 x3 inb_S1x16x2048_S1x16x2048_0_0_0
  have e4 := readAt_full harg6 x4 inb_S1408x144_S1408x144_0_0
  rw [e0, e1, e2, e3, e4]
  refine (View.read_writes_cons_unit_of_mem VO0_5 VO0_5.junk inb_S1x1x1x128_S1x1x1x128_0_0_0_0 _ [] _ (ix4 0 0 0 l) rfl ?_).trans ?_
  · intro a
    match a with
    | ⟨0, _⟩ => rfl
    | ⟨1, _⟩ => rfl
    | ⟨2, _⟩ => rfl
    | ⟨3, _⟩ => exact (Nat.zero_add _).symm
  rw [abs_block hj hP hT, sum_block hj hP, sum_block' hj hT, sq_block hj hP, sq_block' hj hT]
  rw [hi, over_block hj hP, down_block hj hP hT, across_block hj hP hT, err_block hj hP hT]
  refine lanes_apply _ _ _ _ _ _ _ _ _ _ _ _ l _ (ssim_block w P T hj _ fun r c hr hc => ?_)
  have s1 := read_window (S := fun i c => quant (P i c)) hv (sig1 hP) arg8.view
  have s2 := read_window (S := fun i c => quant (T i c)) hv (sig2 hT) arg8.view
  have s3 := read_window (S := fun i c => quant (P i c) * quant (P i c)) hv (sig3 hP) arg8.view
  have s4 := read_window (S := fun i c => quant (T i c) * quant (T i c)) hv (sig4 hT) arg8.view
  have s5 := read_window (S := fun i c => quant (P i c) * quant (T i c)) hv (sig5 hP hT) arg8.view
  refine (map_apply _ _ _ _ _ _ _ _ _ _ _ _ _ _ _ _).trans ?_
  unfold ssimAt window
  congr 1
  · apply sum11 <;> exact s1 _ _ _ _ _ r c (by decide) (by decide) hr hc
  · apply sum11 <;> exact s2 _ _ _ _ _ r c (by decide) (by decide) hr hc
  · apply sum11 <;> exact s3 _ _ _ _ _ r c (by decide) (by decide) hr hc
  · apply sum11 <;> exact s4 _ _ _ _ _ r c (by decide) (by decide) hr hc
  · apply sum11 <;> exact s5 _ _ _ _ _ r c (by decide) (by decide) hr hc

end Cert.KernelIdeal.Value

end
-- ==== Proof.Band.lean ====
/- THE KERNEL'S BAND MATRIX, ENTRY BY ENTRY: the printed 1408 × 144 table of bf16 words is a stack of eleven 128-row
   bands, one per column of the 11 × 11 window; row `r` of band `b` holds column `b` of the window at columns
   `r … r + 10` and zero elsewhere. Here is what is to be checked of the table; `Band1` … `Band8` check an eighth of it
   each, `Bands` puts them together. -/
module

public import proofs.«01_k».proof.KernelIdeal

@[expose] public section

namespace Cert.KernelIdeal.Value

open Idealize.ShloMosaic Cert.KernelIdeal

/-- `p` holds of every number below `n`. -/
def allBelow (p : Nat → Bool) : Nat → Bool
  | 0 => true
  | n + 1 => p n && allBelow p n

theorem of_allBelow {p : Nat → Bool} : ∀ {n : Nat}, allBelow p n = true → ∀ i < n, p i = true
  | n + 1, h, i, hi => by
    rw [allBelow, Bool.and_eq_true] at h
    rcases Nat.lt_succ_iff_lt_or_eq.mp hi with h' | rfl
    · exact of_allBelow h.2 i h'
    · exact h.1

/-- What entry `i` (row-major) of the band matrix should be: in row `r` of band `b`, at column `k` with `k - r` at most
    ten, the entry at row 0 and column `k - r` of the same band; zero elsewhere. -/
noncomputable def wordAt (i : Nat) : Nat :=
  cond (Nat.ble (i / 144 % 128) (i % 144) && Nat.ble (i % 144 - i / 144 % 128) 10)
    ((lit0t (i / 144 / 128 * 18432 + (i % 144 - i / 144 % 128))).toNat) 0

/-- The 128 entries from `128 * u` on are what they should be. -/
noncomputable def tableOk (u : Nat) : Bool :=
  allBelow (fun v => Nat.beq (lit0t (128 * u + v)).toNat (wordAt (128 * u + v))) 128

end Cert.KernelIdeal.Value
-- ==== Proof.Band1.lean ====
/- Tables 0 to 197 of the band matrix, checked one by one (`Band`). -/
module

public import proofs.«01_k».proof.Proof.Band
public import Mathlib.Tactic.IntervalCases

@[expose] public section

set_option maxRecDepth 100000
set_option maxHeartbeats 20000000

namespace Cert.KernelIdeal.Value

/-- Entries 0 to 25343 of the band matrix are what they should be. -/
theorem band1 (u : Nat) (hu : u < 198) : tableOk (0 + u) = true := by
  interval_cases u <;> decide +kernel

end Cert.KernelIdeal.Value
-- ==== Proof.Band2.lean ====
/- Tables 198 to 395 of the band matrix, checked one by one (`Band`). -/
module

public import proofs.«01_k».proof.Proof.Band
public import Mathlib.Tactic.IntervalCases

@[expose] public section

set_option maxRecDepth 100000
set_option maxHeartbeats 20000000

namespace Cert.KernelIdeal.Value

/-- Entries 25344 to 50687 of the band matrix are what they should be. -/
theorem band2 (u : Nat) (hu : u < 198) : tableOk (198 + u) = true := by
  interval_cases u <;> decide +kernel

end Cert.KernelIdeal.Value
-- ==== Proof.Band3.lean ====
/- Tables 396 to 593 of the band matrix, checked one by one (`Band`). -/
module

public import proofs.«01_k».proof.Proof.Band
public import Mathlib.Tactic.IntervalCases

@[expose] public section

set_option maxRecDepth 100000
set_option maxHeartbeats 20000000

namespace Cert.KernelIdeal.Value

/-- Entries 50688 to 76031 of the band matrix are what they should be. -/
theorem band3 (u : Nat) (hu : u < 198) : tableOk (396 + u) = true := by
  interval_cases u <;> decide +kernel

end Cert.KernelIdeal.Value
-- ==== Proof.Band4.lean ====
/- Tables 594 to 791 of the band matrix, checked one by one (`Band`). -/
module

public import proofs.«01_k».proof.Proof.Band
public import Mathlib.Tactic.IntervalCases

@[expose] public section

set_option maxRecDepth 100000
set_option maxHeartbeats 20000000

namespace Cert.KernelIdeal.Value

/-- Entries 76032 to 101375 of the band matrix are what they should be. -/
theorem band4 (u : Nat) (hu : u < 198) : tableOk (594 + u) = true := by
  interval_cases u <;> decide +kernel

end Cert.KernelIdeal.Value
-- ==== Proof.Band5.lean ====
/- Tables 792 to 989 of the band matrix, checked one by one (`Band`). -/
module

public import proofs.«01_k».proof.Proof.Band
public import Mathlib.Tactic.IntervalCases

@[expose] public section

set_option maxRecDepth 100000
set_option maxHeartbeats 20000000

namespace Cert.KernelIdeal.Value

/-- Entries 101376 to 126719 of the band matrix are what they should be. -/
theorem band5 (u : Nat) (hu : u < 198) : tableOk (792 + u) = true := by
  interval_cases u <;> decide +kernel

end Cert.KernelIdeal.Value
-- ==== Proof.Band6.lean ====
/- Tables 990 to 1187 of the band matrix, checked one by one (`Band`). -/
module

public import proofs.«01_k».proof.Proof.Band
public import Mathlib.Tactic.IntervalCases

@[expose] public section

set_option maxRecDepth 100000
set_option maxHeartbeats 20000000

namespace Cert.KernelIdeal.Value

/-- Entries 126720 to 152063 of the band matrix are what they should be. -/
theorem band6 (u : Nat) (hu : u < 198) : tableOk (990 + u) = true := by
  interval_cases u <;> decide +kernel

end Cert.KernelIdeal.Value
-- ==== Proof.Band7.lean ====
/- Tables 1188 to 1385 of the band matrix, checked one by one (`Band`). -/
module

public import proofs.«01_k».proof.Proof.Band
public import Mathlib.Tactic.IntervalCases

@[expose] public section

set_option maxRecDepth 100000
set_option maxHeartbeats 20000000

namespace Cert.KernelIdeal.Value

/-- Entries 152064 to 177407 of the band matrix are what they should be. -/
theorem band7 (u : Nat) (hu : u < 198) : tableOk (1188 + u) = true := by
  interval_cases u <;> decide +kernel

end Cert.KernelIdeal.Value
-- ==== Proof.Band8.lean ====
/- Tables 1386 to 1583 of the band matrix, checked one by one (`Band`). -/
module

public import proofs.«01_k».proof.Proof.Band
public import Mathlib.Tactic.IntervalCases

@[expose] public section

set_option maxRecDepth 100000
set_option maxHeartbeats 20000000

namespace Cert.KernelIdeal.Value

/-- Entries 177408 to 202751 of the band matrix are what they should be. -/
theorem band8 (u : Nat) (hu : u < 198) : tableOk (1386 + u) = true := by
  interval_cases u <;> decide +kernel

end Cert.KernelIdeal.Value
-- ==== Proof.Bands.lean ====
/- The band matrix, whole: every entry is what it should be (`Band`). -/
module

public import proofs.«01_k».proof.Proof.Band1
public import proofs.«01_k».proof.Proof.Band2
public import proofs.«01_k».proof.Proof.Band3
public import proofs.«01_k».proof.Proof.Band4
public import proofs.«01_k».proof.Proof.Band5
public import proofs.«01_k».proof.Proof.Band6
public import proofs.«01_k».proof.Proof.Band7
public import proofs.«01_k».proof.Proof.Band8

@[expose] public section

namespace Cert.KernelIdeal.Value

open Idealize.ShloMosaic Cert.KernelIdeal

theorem tableOk_all (u : Nat) (hu : u < 1584) : tableOk u = true := by
  have key : ∀ o, (∀ v < 198, tableOk (o + v) = true) → o ≤ u → u < o + 198 → tableOk u = true := fun o h h1 h2 => by
    have := h (u - o) (by omega)
    simpa only [Nat.add_sub_cancel' h1] using this
  by_cases h1 : u < 198; · exact key 0 band1 (by omega) (by omega)
  by_cases h2 : u < 396; · exact key 198 band2 (by omega) (by omega)
  by_cases h3 : u < 594; · exact key 396 band3 (by omega) (by omega)
  by_cases h4 : u < 792; · exact key 594 band4 (by omega) (by omega)
  by_cases h5 : u < 990; · exact key 792 band5 (by omega) (by omega)
  by_cases h6 : u < 1188; · exact key 990 band6 (by omega) (by omega)
  by_cases h7 : u < 1386; · exact key 1188 band7 (by omega) (by omega)
  exact key 1386 band8 (by omega) (by omega)

/-- Every entry of the band matrix is what it should be. -/
theorem lit_toNat (i : Nat) (hi : i < 202752) : (lit0t i).toNat = wordAt i := by
  have h := of_allBelow (tableOk_all (i / 128) (by omega)) (i % 128) (by omega)
  rw [show 128 * (i / 128) + i % 128 = i by omega] at h
  exact Nat.eq_of_beq_eq_true h

/-- Row `r` of band `b` holds column `b` of the window at columns `r … r + 10`. -/
theorem lit_band (b r a : Nat) (hb : b < 11) (hr : r < 128) (ha : a < 11) :
    lit0t ((128 * b + r) * 144 + (r + a)) = lit0t (18432 * b + a) := by
  apply BitVec.eq_of_toNat_eq
  rw [lit_toNat _ (by omega), wordAt]
  have e1 : ((128 * b + r) * 144 + (r + a)) / 144 = 128 * b + r := by omega
  have e2 : ((128 * b + r) * 144 + (r + a)) % 144 = r + a := by omega
  have e3 : (128 * b + r) / 128 = b := by omega
  have e4 : (128 * b + r) % 128 = r := by omega
  rw [e1, e2, e3, e4, Nat.add_sub_cancel_left, Nat.ble_eq_true_of_le (by omega : r ≤ r + a),
    Nat.ble_eq_true_of_le (by omega : a ≤ 10), Nat.mul_comm b]
  rfl

/-- Off those columns it holds zero. -/
theorem lit_off (b r k : Nat) (hb : b < 11) (hr : r < 128) (hk : k < 144) (h : k < r ∨ r + 10 < k) :
    lit0t ((128 * b + r) * 144 + k) = 0#16 := by
  apply BitVec.eq_of_toNat_eq
  rw [lit_toNat _ (by omega), wordAt]
  have e1 : ((128 * b + r) * 144 + k) / 144 = 128 * b + r := by omega
  have e2 : ((128 * b + r) * 144 + k) % 144 = k := by omega
  have e3 : (128 * b + r) / 128 = b := by omega
  have e4 : (128 * b + r) % 128 = r := by omega
  rw [e1, e2, e3, e4]
  have : (Nat.ble r k && Nat.ble (k - r) 10) = false := by
    rw [Bool.and_eq_false_iff]
    rcases h with h | h
    · left; exact Bool.eq_false_iff.mpr fun h' => by have := Nat.le_of_ble_eq_true h'; omega
    · right; exact Bool.eq_false_iff.mpr fun h' => by have := Nat.le_of_ble_eq_true h'; omega
  rw [this]
  rfl

end Cert.KernelIdeal.Value
-- ==== Proof.Array.lean ====
/- WHAT THE FIRST CALL'S ARRAY HOLDS: entry `(n, j, 0, l)` is lane `l` of block `j` of image pair `n`. -/
module

public import proofs.«01_k».proof.Proof.Block
public import proofs.«01_k».proof.Proof.Bands
public import Idealize.ShloMosaic.Lib.Pipeline.ValueKit.Geometry

@[expose] public section

set_option maxRecDepth 16384

noncomputable section

namespace Cert.Image

open Idealize.ShloMosaic

/-- Image `n` of a batch, by row and column: zero outside. -/
def img (X : FVec Ideal ⟨4, ![4, 1, 2048, 2048]⟩ .f32) (n : Fin 4) (i c : ℕ) : EReal :=
  if h : i < 2048 ∧ c < 2048 then X (ix4 n 0 ⟨i, h.1⟩ ⟨c, h.2⟩) else 0

theorem img_apply (X : FVec Ideal ⟨4, ![4, 1, 2048, 2048]⟩ .f32) (n : Fin 4) {i c : ℕ} (hi : i < 2048) (hc : c < 2048) :
    img X n i c = X (ix4 n 0 ⟨i, hi⟩ ⟨c, hc⟩) := dif_pos ⟨hi, hc⟩

end Cert.Image

namespace Cert.KernelIdeal.Value

open Idealize.ShloMosaic Idealize.ShloMosaic.Tactic Idealize.ShloMosaic.TcCoe Cert.KernelIdeal Cert.KernelIdeal.Gen Cert.Image Finset
open Idealize.ShloMosaic.Pipeline (Dat)

variable (m : (ℓ : Loc nD τ sig) → Buf (Elt Ideal) ℓ) (ρ : Dev nD → PrngReg)

/-- An argument reshaped to three axes, at an index. -/
theorem reshape_apply (X : FVec Ideal S4x1x2048x2048 .f32) (n : Fin 4) (i c : Fin 2048) :
    shapeCast S4x2048x2048 X shapeCasts_S4x1x2048x2048_S4x2048x2048 (ix3 n i c) = X (ix4 n 0 i c) := by
  pointwise

/-- The first call's prediction array. -/
theorem entry_v0 (c : Dev nD) : V1 m ρ c main_call0_v0
    = shapeCast (s := S4x1x2048x2048) S4x2048x2048 (m ((c : Thread nD τ).loc main_arg0)) shapeCasts_S4x1x2048x2048_S4x2048x2048 := by
  show W1 m ρ c (Proc.devRef .tc main_call0_v0) = _
  after_results
  rfl

/-- The first call's target array. -/
theorem entry_v1 (c : Dev nD) : V1 m ρ c main_call0_v1
    = shapeCast (s := S4x1x2048x2048) S4x2048x2048 (m ((c : Thread nD τ).loc main_arg1)) shapeCasts_S4x1x2048x2048_S4x2048x2048 := by
  show W1 m ρ c (Proc.devRef .tc main_call0_v1) = _
  after_results
  rfl

/-- The first call's band matrix. -/
theorem entry_cst (c : Dev nD) : V1 m ρ c main_call0_cst
    = fun i : S1408x144.Idx => Ideal.ofBits .bf16 (lit0 (S1408x144.rowMajor i)) := by
  show W1 m ρ c (Proc.devRef .tc main_call0_cst) = _
  after_results
  rfl

theorem coords_facts : ∀ t : Fin cfg0.N, (grid0.coords t 0).val = t.val / 16 ∧ (grid0.coords t 1).val = t.val % 16 :=
  (by decide +kernel : ∀ t : Fin grid0.N, _)

theorem index_facts : ∀ t : Fin cfg0.N, win0_0.index t = ![t.val / 16, t.val % 16, 0]
    ∧ win0_1.index t = ![t.val / 16, min ((t.val % 16 + 1) * 8) 127, 0]
    ∧ win0_2.index t = ![t.val / 16, t.val % 16, 0]
    ∧ win0_3.index t = ![t.val / 16, min ((t.val % 16 + 1) * 8) 127, 0]
    ∧ win0_4.index t = ![0, 0]
    ∧ win0_5.index t = ![t.val / 16, t.val % 16, 0, 0] :=
  (by decide +kernel : ∀ t : Fin grid0.N, _)

theorem point_lt (t : Fin cfg0.N) : t.val / 16 < 4 := by have : t.val < 64 := t.isLt; omega

/-- A block's row of the prediction: the image's row. -/
theorem blk0_apply (c : Dev nD) (t : Fin cfg0.N) (r : Fin 128) (k : Fin 2048) (h : 128 * (t.val % 16) + r.val < 2048) :
    iblk0 (V1 m ρ) c 0 t (ix3 0 r k) = m ((c : Thread nD τ).loc main_arg0) (ix4 ⟨t.val / 16, point_lt t⟩ 0 ⟨_, h⟩ k) := by
  have e := (index_facts t).1
  blk_simp [iblk0]
  rw [show (win0_0.blk t).view.emb (ix3 0 r k) = ix3 ⟨t.val / 16, point_lt t⟩ ⟨_, h⟩ k from by blk_ext [e], entry_v0]
  exact reshape_apply _ _ _ _

/-- The sixteen rows below a block, of the prediction. -/
theorem blk1_apply (c : Dev nD) (t : Fin cfg0.N) (r : Fin 16) (k : Fin 2048) (h : 128 * (t.val % 16) + (128 + r.val) < 2048) :
    iblk0 (V1 m ρ) c 1 t (ix3 0 r k) = m ((c : Thread nD τ).loc main_arg0) (ix4 ⟨t.val / 16, point_lt t⟩ 0 ⟨_, h⟩ k) := by
  have e := (index_facts t).2.1
  have := r.isLt
  blk_simp [iblk0]
  rw [show (win0_1.blk t).view.emb (ix3 0 r k) = ix3 ⟨t.val / 16, point_lt t⟩ ⟨_, h⟩ k from by blk_ext [e], entry_v0]
  exact reshape_apply _ _ _ _

/-- A block's row of the target. -/
theorem blk2_apply (c : Dev nD) (t : Fin cfg0.N) (r : Fin 128) (k : Fin 2048) (h : 128 * (t.val % 16) + r.val < 2048) :
    iblk0 (V1 m ρ) c 2 t (ix3 0 r k) = m ((c : Thread nD τ).loc main_arg1) (ix4 ⟨t.val / 16, point_lt t⟩ 0 ⟨_, h⟩ k) := by
  have e := (index_facts t).2.2.1
  blk_simp [iblk0]
  rw [show (win0_2.blk t).view.emb (ix3 0 r k) = ix3 ⟨t.val / 16, point_lt t⟩ ⟨_, h⟩ k from by blk_ext [e], entry_v1]
  exact reshape_apply _ _ _ _

/-- The sixteen rows below a block, of the target. -/
theorem blk3_apply (c : Dev nD) (t : Fin cfg0.N) (r : Fin 16) (k : Fin 2048) (h : 128 * (t.val % 16) + (128 + r.val) < 2048) :
    iblk0 (V1 m ρ) c 3 t (ix3 0 r k) = m ((c : Thread nD τ).loc main_arg1) (ix4 ⟨t.val / 16, point_lt t⟩ 0 ⟨_, h⟩ k) := by
  have e := (index_facts t).2.2.2.1
  have := r.isLt
  blk_simp [iblk0]
  rw [show (win0_3.blk t).view.emb (ix3 0 r k) = ix3 ⟨t.val / 16, point_lt t⟩ ⟨_, h⟩ k from by blk_ext [e], entry_v1]
  exact reshape_apply _ _ _ _

/-- The band matrix is staged whole. -/
theorem blk4_apply (c : Dev nD) (t : Fin cfg0.N) (q : Fin 1408) (k : Fin 144) :
    iblk0 (V1 m ρ) c 4 t (ix2 q k) = Ideal.ofBits .bf16 (lit0t (q.val * 144 + k.val)) := by
  have e := (index_facts t).2.2.2.2.1
  blk_simp [iblk0]
  rw [show (win0_4.blk t).view.emb (ix2 q k) = ix2 q k from by blk_ext [e], entry_cst]
  exact congrArg (fun u => Ideal.ofBits .bf16 (lit0t u)) (Shape.rowMajor_val_two (ix2 q k))

/-- The prediction and target images of pair `n`. -/
abbrev pred (c : Dev nD) (n : Fin 4) : ℕ → ℕ → EReal := img (m ((c : Thread nD τ).loc main_arg0)) n
abbrev targ (c : Dev nD) (n : Fin 4) : ℕ → ℕ → EReal := img (m ((c : Thread nD τ).loc main_arg1)) n

theorem rows_pred (c : Dev nD) (t : Fin cfg0.N) :
    Rows (pred m c ⟨t.val / 16, point_lt t⟩) (t.val % 16) (iblk0 (V1 m ρ) c 0 t) (iblk0 (V1 m ρ) c 1 t) := by
  intro r k h
  have hr := r.isLt
  refine Eq.trans ?_ (img_apply _ _ h k.isLt).symm
  unfold ext
  split_ifs with h'
  · exact blk0_apply m ρ c t ⟨r.val, h'⟩ k h
  · have e : 128 * (t.val % 16) + (128 + (r.val - 128)) = 128 * (t.val % 16) + r.val := by omega
    have h'' : 128 * (t.val % 16) + (128 + (r.val - 128)) < 2048 := e.trans_lt h
    refine (blk1_apply m ρ c t ⟨r.val - 128, by omega⟩ k h'').trans ?_
    rw [show (⟨128 * (t.val % 16) + (128 + (r.val - 128)), h''⟩ : Fin 2048) = ⟨128 * (t.val % 16) + r.val, h⟩ from Fin.ext e]

theorem rows_targ (c : Dev nD) (t : Fin cfg0.N) :
    Rows (targ m c ⟨t.val / 16, point_lt t⟩) (t.val % 16) (iblk0 (V1 m ρ) c 2 t) (iblk0 (V1 m ρ) c 3 t) := by
  intro r k h
  have hr := r.isLt
  refine Eq.trans ?_ (img_apply _ _ h k.isLt).symm
  unfold ext
  split_ifs with h'
  · exact blk2_apply m ρ c t ⟨r.val, h'⟩ k h
  · have e : 128 * (t.val % 16) + (128 + (r.val - 128)) = 128 * (t.val % 16) + r.val := by omega
    have h'' : 128 * (t.val % 16) + (128 + (r.val - 128)) < 2048 := e.trans_lt h
    refine (blk3_apply m ρ c t ⟨r.val - 128, by omega⟩ k h'').trans ?_
    rw [show (⟨128 * (t.val % 16) + (128 + (r.val - 128)), h''⟩ : Fin 2048) = ⟨128 * (t.val % 16) + r.val, h⟩ from Fin.ext e]

/-- A matrix is a stack of bands if its table of words is. -/
theorem bands_of (f : ℕ → BitVec 16)
    (h₁ : ∀ b r a, b < 11 → r < 128 → a < 11 → f ((128 * b + r) * 144 + (r + a)) = f (18432 * b + a))
    (h₀ : ∀ b r k, b < 11 → r < 128 → k < 144 → (k < r ∨ r + 10 < k) → f ((128 * b + r) * 144 + k) = 0#16)
    (v : FVec Ideal S1408x144 .bf16) (hv : ∀ q k, v (ix2 q k) = Ideal.ofBits .bf16 (f (q.val * 144 + k.val))) :
    Bands (fun a b => Ideal.ofBits .bf16 (f (18432 * b + a))) v := by
  intro b r hb hr k
  have hk := k.isLt
  rw [hv]
  split_ifs with h
  · have := h₁ b r (k.val - r) hb hr (by omega)
    rw [show r + (k.val - r) = k.val by omega] at this
    exact congrArg (Ideal.ofBits .bf16) this
  · refine (congrArg (Ideal.ofBits .bf16) (h₀ b r k.val hb hr hk (by omega))).trans ?_
    simp [Ideal.ofBits, Ideal.ieee]

/-- The window's weight at row `a`, column `b`: what band `b`'s first row holds at column `a`. -/
def wt : ℕ → ℕ → EReal := fun a b => Ideal.ofBits .bf16 (lit0t (18432 * b + a))

theorem bands_wt (c : Dev nD) (t : Fin cfg0.N) : Bands wt (iblk0 (V1 m ρ) c 4 t) :=
  bands_of lit0t lit_band lit_off _ (blk4_apply m ρ c t)

/-- The first call's array, entry by entry. -/
theorem partial_apply (c : Dev nD) (n : Fin 4) (j : Fin 16) (l : Fin 128) :
    V2 m ρ c (Pipeline.arrRef spec0 5) (ix4 n j 0 l) = lanes wt (pred m c n) (targ m c n) j.val l.val := by
  have key : (dat0 (V1 m ρ) c).arrAt 5 cfg0.N
      = fun i : S4x16x1x128.Idx => lanes wt (pred m c (i 0)) (targ m c (i 0)) (i 1).val (i 3).val := by
    refine (dat0 (V1 m ρ) c).arrAt_eq_of_covers 5 _ (by decide +kernel) fun t hf y => ?_
    have e := (index_facts t).2.2.2.2.2
    blk_simp
    rw [after0_5]
    unfold outsAt0
    obtain ⟨l, rfl⟩ : ∃ l, y = ix4 0 0 0 l := ⟨y 3, by blk_ext⟩
    refine (block_apply _ _ _ _ _ _ _ _ _ _ _ _ _ _ _ _ _ _ _ _ _ (Nat.mod_lt _ (by decide)) (coords_facts t).2
      (rows_pred m ρ c t) (rows_targ m ρ c t) (bands_wt m ρ c t) l).trans ?_
    rw [show (win0_5.blk t).view.emb (ix4 0 0 0 l) = ix4 ⟨t.val / 16, point_lt t⟩ ⟨t.val % 16, Nat.mod_lt _ (by decide)⟩ 0 l
      from by blk_ext [e], e]
    show lanes _ _ _ _ _ = lanes _ _ _ _ (0 * 128 + l.val)
    rw [Nat.zero_mul, Nat.zero_add]
    rfl
  exact congrFun ((W2_arr m ρ c 5).trans key) (ix4 n j 0 l)

end Cert.KernelIdeal.Value

end
-- ==== Proof.Loss.lean ====
/- THE LOSS OF ITS SUMS. Of each of the four image pairs there are ten sums (`Maths`); here is how the two programs make the
   three results of them. Nothing here is about a program. -/
module

public import proofs.«01_k».proof.Proof.Maths

@[expose] public section

noncomputable section

namespace Cert.Image

open Idealize.ShloMosaic Finset

/-- The number of pixels of an image, 2048². -/
abbrev pixels : EReal := Ideal.ofBits .f32 0x4A800000#32
/-- One less: 2048² - 1. -/
abbrev pixelsLess : EReal := Ideal.ofBits .f32 0x4A7FFFFC#32
/-- The number of pixels of a batch, 4 · 2048². -/
abbrev batchPixels : EReal := Ideal.ofBits .f32 0x4B800000#32
/-- The number of neighbouring pairs in one direction, 4 · 2047 · 2048. -/
abbrev batchPairs : EReal := Ideal.ofBits .f32 0x4B7FE000#32
/-- The number of windows of an image, 2038². -/
abbrev windows : EReal := Ideal.ofBits .f32 0x4A7D8190#32
/-- The number of image pairs. -/
abbrev images : EReal := Ideal.ofBits .f32 0x40800000#32

/-- The mean structural similarity, clipped to [0, 1]. -/
def ssimMean (s : Fin 4 → EReal) : EReal := min 1 (max 0 (Ideal.div (∑ n, Ideal.div (s n) windows) images))

/-- The mean signal-to-noise ratio of the images' squared errors; `decibels` is the ratio of an image that has noise. -/
def psnrMean (decibels : EReal → EReal) (e : Fin 4 → EReal) : EReal :=
  Ideal.div (∑ n, if Ideal.div (e n) pixels = 0 then Ideal.ofBits .f32 0x42C80000#32
    else decibels (Ideal.div (Ideal.ofBits .f32 0x477E0100#32) (max (Ideal.div (e n) pixels) (Ideal.ofBits .f32 0x2B8CBCCC#32)))) images

/-- The mean over the images of a squared difference. -/
def meanSquare (a b : Fin 4 → EReal) : EReal := Ideal.div (∑ n, (a n - b n) * (a n - b n)) images

/-- The standard deviation, of the sum of the squared deviations. -/
def deviation (q : EReal) : EReal := Ideal.sqrt (Ideal.div q pixelsLess)

/-- The sum of the squared deviations, as the kernel has it: of the sum and the sum of the squares. -/
def spread (s q : EReal) : EReal := max (q - pixels * Ideal.div s pixels * Ideal.div s pixels) 0

/-- The loss of its parts: absolute difference, changes down and across, energy, distance, excess, similarity. -/
def loss (l₁ down across energy dist over ssim : EReal) : EReal :=
  Ideal.div l₁ batchPixels + Ideal.ofBits .f32 0x3E19999A#32 * (Ideal.div down batchPairs + Ideal.div across batchPairs)
    + Ideal.ofBits .f32 0x3D4CCCCD#32
      * (energy + Ideal.ofBits .f32 0x3F000000#32 * dist + Ideal.ofBits .f32 0x3DCCCCCD#32 * Ideal.div over batchPixels)
    + Ideal.ofBits .f32 0x3DCCCCCD#32 * (1 - ssim)

end Cert.Image

end
-- ==== Proof.Sums.lean ====
/- SUMS OVER SOME OF AN ARRAY'S AXES, by coordinates: over the two middle ones of four, the last three of four, and all four. -/
module

public import Idealize.ShloMosaic.Lib.Pointwise

@[expose] public section

noncomputable section

namespace Cert.Image

open Idealize.ShloMosaic Finset

variable {a b c d : ℕ}

/-- A sum over the indices that `f` lists, once each. -/
theorem sum_listed {α β : Type} [Fintype α] [DecidableEq α] [Fintype β] (p : α → Prop) [DecidablePred p] (f : β → α)
    (hf : Function.Injective f) (h : ∀ i, p i ↔ ∃ k, f k = i) (x : α → EReal) :
    ∑ i ∈ univ.filter p, x i = ∑ k, x (f k) := by
  rw [← sum_image (f := x) (g := f) (s := univ) fun k _ l _ e => hf e]
  congr 1
  ext i
  simp [h i]

/-- The kernel's sum over the two middle axes. -/
theorem sum_middle (h : (⟨4, ![a, b, c, d]⟩ : Shape).Reduces [1, 2] ⟨2, ![a, d]⟩) (x : (⟨4, ![a, b, c, d]⟩ : Shape).Idx → EReal)
    (n : Fin a) (l : Fin d) : Ideal.reduceAdd h x (ix2 n l) = ∑ j : Fin b, ∑ k : Fin c, x (ix4 n j k l) := by
  refine (sum_listed _ (fun q : Fin b × Fin c => (ix4 n q.1 q.2 l : (⟨4, ![a, b, c, d]⟩ : Shape).Idx)) (fun q r e => Prod.ext (congrFun e 1) (congrFun e 2))
    (fun i => ⟨fun e => ⟨(i 1, i 2), ?_⟩, ?_⟩) x).trans (Fintype.sum_prod_type _)
  · have e0 := congrFun e 0
    have e1 := congrFun e 1
    funext t; apply Fin.ext
    match t with
    | ⟨0, _⟩ => exact (congrArg Fin.val e0).symm
    | ⟨1, _⟩ => rfl
    | ⟨2, _⟩ => rfl
    | ⟨3, _⟩ => exact (congrArg Fin.val e1).symm
  · rintro ⟨q, rfl⟩
    funext t; apply Fin.ext
    match t with
    | ⟨0, _⟩ => rfl
    | ⟨1, _⟩ => rfl

/-- The reference's sum over the last three axes. -/
theorem sum_image3 (h : (⟨4, ![a, b, c, d]⟩ : Shape).ReducesTo [1, 2, 3] ⟨1, ![a]⟩) (x : (⟨4, ![a, b, c, d]⟩ : Shape).Idx → EReal)
    (init : EReal) (n : Fin a) :
    Ideal.hostReduceAdd h x init (ix1 n) = init + ∑ j : Fin b, ∑ k : Fin c, ∑ l : Fin d, x (ix4 n j k l) := by
  refine congrArg (init + ·) ((sum_listed _ (fun q : Fin b × Fin c × Fin d => (ix4 n q.1 q.2.1 q.2.2 : (⟨4, ![a, b, c, d]⟩ : Shape).Idx))
    (fun q r e => Prod.ext (congrFun e 1) (Prod.ext (congrFun e 2) (congrFun e 3)))
    (fun i => ⟨fun e => ⟨(i 1, i 2, i 3), ?_⟩, ?_⟩) x).trans ?_)
  · have e0 := congrFun e 0
    funext t; apply Fin.ext
    match t with
    | ⟨0, _⟩ => exact (congrArg Fin.val e0).symm
    | ⟨1, _⟩ => rfl
    | ⟨2, _⟩ => rfl
    | ⟨3, _⟩ => rfl
  · rintro ⟨q, rfl⟩
    funext t; apply Fin.ext
    match t with
    | ⟨0, _⟩ => rfl
  · rw [Fintype.sum_prod_type]
    exact sum_congr rfl fun j _ => Fintype.sum_prod_type _

/-- The reference's sum over all four axes. -/
theorem sum_batch (h : (⟨4, ![a, b, c, d]⟩ : Shape).ReducesTo [0, 1, 2, 3] ⟨0, ![]⟩) (x : (⟨4, ![a, b, c, d]⟩ : Shape).Idx → EReal)
    (init : EReal) (o : (⟨0, ![]⟩ : Shape).Idx) :
    Ideal.hostReduceAdd h x init o = init + ∑ n : Fin a, ∑ j : Fin b, ∑ k : Fin c, ∑ l : Fin d, x (ix4 n j k l) := by
  refine congrArg (init + ·) ((sum_listed _ (fun q : Fin a × Fin b × Fin c × Fin d => (ix4 q.1 q.2.1 q.2.2.1 q.2.2.2 : (⟨4, ![a, b, c, d]⟩ : Shape).Idx))
    (fun q r e => Prod.ext (congrFun e 0) (Prod.ext (congrFun e 1) (Prod.ext (congrFun e 2) (congrFun e 3))))
    (fun i => ⟨fun e => ⟨(i 0, i 1, i 2, i 3), ?_⟩, fun _ => funext fun t => t.elim0⟩) x).trans ?_)
  · funext t; apply Fin.ext
    match t with
    | ⟨0, _⟩ => rfl
    | ⟨1, _⟩ => rfl
    | ⟨2, _⟩ => rfl
    | ⟨3, _⟩ => rfl
  · rw [Fintype.sum_prod_type]
    refine sum_congr rfl fun n _ => ?_
    rw [Fintype.sum_prod_type]
    exact sum_congr rfl fun j _ => Fintype.sum_prod_type _

end Cert.Image

end
-- ==== Proof.Combine.lean ====
/- WHAT THE SECOND CALL MAKES OF THE FIRST'S ARRAY: the three results, of the sums over the blocks of the lanes. -/
module

public import proofs.«01_k».proof.Proof.Gen.KernelIdeal.Frame
public import proofs.«01_k».proof.Proof.Loss
public import proofs.«01_k».proof.Proof.Sums
public import Idealize.ShloMosaic.Lib.Pipeline.ValueKit.Geometry

@[expose] public section

set_option maxRecDepth 16384

noncomputable section

namespace Cert.KernelIdeal.Value

open Idealize.ShloMosaic Idealize.ShloMosaic.Tactic Idealize.ShloMosaic.TcCoe Cert.KernelIdeal Cert.KernelIdeal.Gen Cert.Image Finset
open Idealize.ShloMosaic.Pipeline (Dat)

/-- Lane `l` of image pair `n`, summed over the blocks. -/
def laneSum (A : FVec Ideal S4x16x1x128 .f32) (l : Fin 128) (n : Fin 4) : EReal := ∑ j : Fin 16, A (ix4 n j 0 l)

theorem lane_apply (A : FVec Ideal S4x16x1x128 .f32) (n : Fin 4) (l : Fin 128) :
    k1_pay1 (F := Ideal) A (ix2 n l) = laneSum A l n := by
  pointwise [k1_pay1]
  exact (sum_middle _ A n l).trans (sum_congr rfl fun j _ => Fin.sum_univ_one _)

/-- Of 128 lanes only lane `k` is kept. -/
theorem pick (f : Fin 128 → EReal) (k : Fin 128) :
    ∑ l : Fin 128, Scalar.select (IntOp.cmpi .eq (BitVec.ofNat 32 l.val) (BitVec.ofNat 32 k.val)) (f l) 0 = f k := by
  rw [Finset.sum_eq_single k]
  · simp [IntOp.cmpi, Scalar.select]
  · intro l _ hl
    have : BitVec.ofNat 32 l.val ≠ BitVec.ofNat 32 k.val := fun e => hl (Fin.ext (by
      have := congrArg BitVec.toNat e
      simp only [BitVec.toNat_ofNat] at this
      have := l.isLt
      have := k.isLt
      omega))
    simp only [IntOp.cmpi, Scalar.select, beq_false_of_ne this]
    rfl
  · simp

variable (A : FVec Ideal S4x16x1x128 .f32) (n : Fin 4)

theorem pick0 : k1_pay2 (F := Ideal) A (ix2 n 0) = laneSum A 0 n := by
  pointwise [k1_pay2]; simp only [lane_apply]; exact pick (fun l => laneSum A l n) 0
theorem pick1 : k1_pay3 (F := Ideal) A (ix2 n 0) = laneSum A 1 n := by
  pointwise [k1_pay3]; simp only [lane_apply]; exact pick (fun l => laneSum A l n) 1
theorem pick2 : k1_pay4 (F := Ideal) A (ix2 n 0) = laneSum A 2 n := by
  pointwise [k1_pay4]; simp only [lane_apply]; exact pick (fun l => laneSum A l n) 2
theorem pick3 : k1_pay5 (F := Ideal) A (ix2 n 0) = laneSum A 3 n := by
  pointwise [k1_pay5]; simp only [lane_apply]; exact pick (fun l => laneSum A l n) 3
theorem pick4 : k1_pay6 (F := Ideal) A (ix2 n 0) = laneSum A 4 n := by
  pointwise [k1_pay6]; simp only [lane_apply]; exact pick (fun l => laneSum A l n) 4
theorem pick5 : k1_pay8 (k1_pay7 (F := Ideal) A) (ix2 n 0) = laneSum A 5 n := by
  pointwise [k1_pay8, k1_pay7]; simp only [lane_apply]; exact pick (fun l => laneSum A l n) 5
theorem pick6 : k1_pay9 (k1_pay1 (F := Ideal) A) (k1_pay21 (F := Ideal) A) (ix2 n 0) = laneSum A 6 n := by
  pointwise [k1_pay9, k1_pay21]; simp only [lane_apply]; exact pick (fun l => laneSum A l n) 6
theorem pick7 : k1_pay10 (k1_pay1 (F := Ideal) A) (k1_pay21 (F := Ideal) A) (ix2 n 0) = laneSum A 7 n := by
  pointwise [k1_pay10, k1_pay21]; simp only [lane_apply]; exact pick (fun l => laneSum A l n) 7
theorem pick8 : k1_pay11 (k1_pay1 (F := Ideal) A) (k1_pay21 (F := Ideal) A) (ix2 n 0) = laneSum A 8 n := by
  pointwise [k1_pay11, k1_pay21]; simp only [lane_apply]; exact pick (fun l => laneSum A l n) 8
theorem pick9 : k1_pay12 (k1_pay1 (F := Ideal) A) (k1_pay21 (F := Ideal) A) (ix2 n 0) = laneSum A 9 n := by
  pointwise [k1_pay12, k1_pay21]; simp only [lane_apply]; exact pick (fun l => laneSum A l n) 9

/-- The mean similarity. -/
theorem pay19_apply (s : FVec Ideal S4x1 .f32) : k1_pay19 (F := Ideal) s (ix2 0 0) = ssimMean fun n => s (ix2 n 0) := by
  pointwise [k1_pay19]
  rfl

/-- The kernel's decibels of a ratio. -/
def decibels (x : EReal) : EReal := Named.named (F := Ideal) (φ := .f32) κ "ten_by_ln10" 0x408AF967#32 * Ideal.log x

/-- The mean signal-to-noise ratio. -/
theorem psnr_apply (s : FVec Ideal S4x1 .f32) :
    k1_pay18 (F := Ideal) s k1_pay17 (ix2 0 0) = psnrMean decibels fun n => s (ix2 n 0) := by
  pointwise [k1_pay18, k1_pay17]
  rfl

/-- The loss. -/
theorem total_apply (s0 s1 s2 s3 s4 s5 s6 s7 s9 : FVec Ideal S4x1 .f32) :
    k1_pay20 (F := Ideal) s9 (k1_pay13 s0) (k1_pay14 s1 s2) (k1_pay16 s3 s4 s5 s6 s7 k1_pay15) (ix2 0 0)
      = loss (∑ n, s0 (ix2 n 0)) (∑ n, s1 (ix2 n 0)) (∑ n, s2 (ix2 n 0))
          (meanSquare (fun n => Ideal.div (s3 (ix2 n 0)) pixels) fun n => Ideal.div (s4 (ix2 n 0)) pixels)
          (meanSquare (fun n => deviation (spread (s3 (ix2 n 0)) (s5 (ix2 n 0)))) fun n => deviation (spread (s4 (ix2 n 0)) (s6 (ix2 n 0))))
          (∑ n, s7 (ix2 n 0)) (ssimMean fun n => s9 (ix2 n 0)) := by
  pointwise [k1_pay20, k1_pay19, k1_pay13, k1_pay14, k1_pay15, k1_pay16]
  rfl

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The second call's first output, the loss. -/
theorem out1_apply : out1_1 (F := Ideal) A (ix2 0 0)
    = loss (∑ n, laneSum A 0 n) (∑ n, laneSum A 1 n) (∑ n, laneSum A 2 n)
        (meanSquare (fun n => Ideal.div (laneSum A 3 n) pixels) fun n => Ideal.div (laneSum A 4 n) pixels)
        (meanSquare (fun n => deviation (spread (laneSum A 3 n) (laneSum A 5 n))) fun n => deviation (spread (laneSum A 4 n) (laneSum A 6 n)))
        (∑ n, laneSum A 7 n) (ssimMean (laneSum A 9)) := by
  unfold out1_1 k1_pay23 k1_pay22
  rw [View.canon_unit_zero hz2, View.ld_unit_zero hz4, total_apply]
  simp only [pick0, pick1, pick2, pick3, pick4, pick5, pick6, pick7, pick9]

/-- Its second output, the mean signal-to-noise ratio. -/
theorem out2_apply : out1_2 (F := Ideal) A (ix2 0 0) = psnrMean decibels (laneSum A 8) := by
  unfold out1_2 k1_pay22
  rw [View.canon_unit_zero hz2, View.ld_unit_zero hz4, psnr_apply]
  simp only [pick8]

/-- Its third output, the mean similarity. -/
theorem out3_apply : out1_3 (F := Ideal) A (ix2 0 0) = ssimMean (laneSum A 9) := by
  unfold out1_3 k1_pay23 k1_pay22
  rw [View.canon_unit_zero hz2, View.ld_unit_zero hz4, pay19_apply]
  simp only [pick9]

variable (m : (ℓ : Loc nD τ sig) → Buf (Elt Ideal) ℓ) (ρ : Dev nD → PrngReg)

/-- The second call's windows are whole arrays. -/
theorem index1_facts : ∀ t : Fin cfg1.N, win1_0.index t = ![0, 0, 0, 0] ∧ win1_1.index t = ![0, 0] ∧ win1_2.index t = ![0, 0]
    ∧ win1_3.index t = ![0, 0] :=
  (by decide +kernel : ∀ t : Fin grid1.N, _)

theorem iblk1_eq (c : Dev nD) (t : Fin cfg1.N) : iblk1 (V2 m ρ) c 0 t = V2 m ρ c (Pipeline.arrRef spec0 5) := by
  have e := (index1_facts t).1
  funext y
  blk_simp [iblk1]
  rw [show (win1_0.blk t).view.emb y = y from by blk_ext [e]]

theorem array1 (c : Dev nD) (i : S1x1.Idx) :
    W3 m ρ c (Proc.devRef .tc (Pipeline.arrRef spec1 1)) i = out1_1 (F := Ideal) (V2 m ρ c (Pipeline.arrRef spec0 5)) i := by
  rw [W3_arr]
  refine congrFun (((dat1 (V2 m ρ) c).arrAt_eq_of_covers 1 _ (by decide +kernel) fun t hf y => ?_)) i
  have e := (index1_facts t).2.1
  blk_simp
  rw [after1_1, iblk1_eq, show (win1_1.blk t).view.emb y = y from by blk_ext [e]]

theorem array2 (c : Dev nD) (i : S1x1.Idx) :
    W3 m ρ c (Proc.devRef .tc (Pipeline.arrRef spec1 2)) i = out1_2 (F := Ideal) (V2 m ρ c (Pipeline.arrRef spec0 5)) i := by
  rw [W3_arr]
  refine congrFun (((dat1 (V2 m ρ) c).arrAt_eq_of_covers 2 _ (by decide +kernel) fun t hf y => ?_)) i
  have e := (index1_facts t).2.2.1
  blk_simp
  rw [after1_2, iblk1_eq, show (win1_2.blk t).view.emb y = y from by blk_ext [e]]

theorem array3 (c : Dev nD) (i : S1x1.Idx) :
    W3 m ρ c (Proc.devRef .tc (Pipeline.arrRef spec1 3)) i = out1_3 (F := Ideal) (V2 m ρ c (Pipeline.arrRef spec0 5)) i := by
  rw [W3_arr]
  refine congrFun (((dat1 (V2 m ρ) c).arrAt_eq_of_covers 3 _ (by decide +kernel) fun t hf y => ?_)) i
  have e := (index1_facts t).2.2.2
  blk_simp
  rw [after1_3, iblk1_eq, show (win1_3.blk t).view.emb y = y from by blk_ext [e]]

/-- The one element of a 1 × 1 array, reshaped to no axes. -/
theorem scalar_apply (x : FVec Ideal S1x1 .f32) (h : S1x1.ShapeCasts S_) (i : S_.Idx) : shapeCast S_ x h i = x (ix2 0 0) := by
  pointwise

/-- The first result, the loss, at the end of the program. -/
theorem end1 (c : Dev nD) (i : S_.Idx) :
    W4 m ρ c (Proc.devRef .tc main_v0_0) i = out1_1 (F := Ideal) (V2 m ρ c (Pipeline.arrRef spec0 5)) (ix2 0 0) := by
  refine Eq.trans ?_ (array1 m ρ c (ix2 0 0))
  after_results
  exact scalar_apply _ _ _

/-- The second result. -/
theorem end2 (c : Dev nD) (i : S_.Idx) :
    W4 m ρ c (Proc.devRef .tc main_v0_1) i = out1_2 (F := Ideal) (V2 m ρ c (Pipeline.arrRef spec0 5)) (ix2 0 0) := by
  refine Eq.trans ?_ (array2 m ρ c (ix2 0 0))
  after_results
  exact scalar_apply _ _ _

/-- The third result. -/
theorem end3 (c : Dev nD) (i : S_.Idx) :
    W4 m ρ c (Proc.devRef .tc main_v0_2) i = out1_3 (F := Ideal) (V2 m ρ c (Pipeline.arrRef spec0 5)) (ix2 0 0) := by
  refine Eq.trans ?_ (array3 m ρ c (ix2 0 0))
  after_results
  exact scalar_apply _ _ _

end Cert.KernelIdeal.Value

end
-- ==== Proof.KernelRun.lean ====
/- THE KERNEL'S RUN, WITH ITS RESULTS: after it the arguments are as they were and the three results are the loss, the mean
   signal-to-noise ratio and the mean similarity of the images' sums. -/
module

public import proofs.«01_k».proof.Proof.Array
public import proofs.«01_k».proof.Proof.Combine

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Image

section Run

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the program ends as the last host operations leave it. -/
theorem ends : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Run

variable (m : (ℓ : Loc nD τ sig) → Buf (Elt Ideal) ℓ) (ρ : Dev nD → PrngReg)

/-- Lane `l`, summed over the blocks, is the sum over the image's rows. -/
theorem laneSum_eq (c : Dev nD) (l : Fin 128) (n : Fin 4) {f : ℕ → EReal}
    (h : ∀ j, lanes wt (pred m c n) (targ m c n) j l.val = ∑ r ∈ Finset.range 128, f (128 * j + r)) :
    laneSum (V2 m ρ c (Pipeline.arrRef spec0 5)) l n = ∑ i ∈ Finset.range 2048, f i := by
  rw [← sum_blocks]
  exact Finset.sum_congr rfl fun j _ => (partial_apply m ρ c n j l).trans (h j.val)

/-- The loss of two batches of images. -/
def lossK (X Y : FVec Ideal ⟨4, ![4, 1, 2048, 2048]⟩ .f32) : EReal :=
  loss (∑ n, ∑ i ∈ Finset.range 2048, rowAbs (img X n) (img Y n) i) (∑ n, ∑ i ∈ Finset.range 2048, rowDown (img X n) (img Y n) i)
    (∑ n, ∑ i ∈ Finset.range 2048, rowAcross (img X n) (img Y n) i)
    (meanSquare (fun n => Ideal.div (∑ i ∈ Finset.range 2048, rowSum (img X n) i) pixels)
      fun n => Ideal.div (∑ i ∈ Finset.range 2048, rowSum (img Y n) i) pixels)
    (meanSquare
      (fun n => deviation (spread (∑ i ∈ Finset.range 2048, rowSum (img X n) i) (∑ i ∈ Finset.range 2048, rowSq (img X n) i)))
      fun n => deviation (spread (∑ i ∈ Finset.range 2048, rowSum (img Y n) i) (∑ i ∈ Finset.range 2048, rowSq (img Y n) i)))
    (∑ n, ∑ i ∈ Finset.range 2048, rowOver (img X n) i)
    (ssimMean fun n => ∑ i ∈ Finset.range 2048, rowSsim wt (img X n) (img Y n) i)

/-- The kernel's run: results and arguments. -/
theorem run : θ_run defs (onTc (τ := τ) (main (F := Ideal))) ⟨m, fun _ => 0, ρ⟩ fun r => ∀ c : Dev nD,
      (r.2.mem ((c : Thread nD τ).loc main_v0_0) = fun _ => lossK (m ((c : Thread nD τ).loc main_arg0)) (m ((c : Thread nD τ).loc main_arg1)))
      ∧ (r.2.mem ((c : Thread nD τ).loc main_v0_1) = fun _ =>
          psnrMean decibels fun n => ∑ i ∈ Finset.range 2048, rowErr (pred m c n) (targ m c n) i)
      ∧ (r.2.mem ((c : Thread nD τ).loc main_v0_2) = fun _ =>
          ssimMean fun n => ∑ i ∈ Finset.range 2048, rowSsim wt (pred m c n) (targ m c n) i)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (ends m ρ)
  have l0 := fun n => laneSum_eq m ρ c 0 n fun _ => rfl
  have l1 := fun n => laneSum_eq m ρ c 1 n fun _ => rfl
  have l2 := fun n => laneSum_eq m ρ c 2 n fun _ => rfl
  have l3 := fun n => laneSum_eq m ρ c 3 n fun _ => rfl
  have l4 := fun n => laneSum_eq m ρ c 4 n fun _ => rfl
  have l5 := fun n => laneSum_eq m ρ c 5 n fun _ => rfl
  have l6 := fun n => laneSum_eq m ρ c 6 n fun _ => rfl
  have l7 := fun n => laneSum_eq m ρ c 7 n fun _ => rfl
  have l8 := funext fun n => laneSum_eq m ρ c 8 n fun _ => rfl
  have l9 := funext fun n => laneSum_eq m ρ c 9 n fun _ => rfl
  refine ⟨(h c _ (mem_uc main_v0_0 (by decide))).trans (funext fun i => (end1 m ρ c i).trans ((out1_apply _).trans ?_)),
    (h c _ (mem_uc main_v0_1 (by decide))).trans (funext fun i => (end2 m ρ c i).trans ((out2_apply _).trans ?_)),
    (h c _ (mem_uc main_v0_2 (by decide))).trans (funext fun i => (end3 m ρ c i).trans ((out3_apply _).trans ?_)),
    (h c _ (mem_uc main_arg0 (by decide))).trans (W4_main_arg0 m ρ c), (h c _ (mem_uc main_arg1 (by decide))).trans (W4_main_arg1 m ρ c)⟩
  · rw [l9]
    simp only [l0, l1, l2, l3, l4, l5, l6, l7]
    rfl
  · rw [l8]
  · rw [l9]

end Cert.KernelIdeal.Value

end
-- ==== Proof.Window.lean ====
/- THE REFERENCE'S WINDOW SUMS. It lays the eleven row shifts of an image beside each other, then the eleven column shifts of
   those, and sums the weighted 11 × 11 copies. Entry `(n, 0, i, c)` is the weighted window of image `n` at `(i, c)`. -/
module

public import proofs.«01_k».proof.Proof.Gen.ReferenceIdeal.Run
public import proofs.«01_k».proof.Proof.Loss
public import proofs.«01_k».proof.Proof.Sums
public import Idealize.ShloMosaic.Lib.Pointwise

@[expose] public section

set_option maxRecDepth 16384

noncomputable section

namespace Cert.Image

open Idealize.ShloMosaic Finset

/-- The reference's sum over the third and fourth of six axes, by coordinates. -/
theorem sum_taps {a b c d e f : ℕ} (h : (⟨6, ![a, b, c, d, e, f]⟩ : Shape).ReducesTo [2, 3] ⟨4, ![a, b, e, f]⟩)
    (x : (⟨6, ![a, b, c, d, e, f]⟩ : Shape).Idx → EReal) (init : EReal) (n : Fin a) (o : Fin b) (i : Fin e) (l : Fin f) :
    Ideal.hostReduceAdd h x init (ix4 n o i l) = init + ∑ j : Fin c, ∑ k : Fin d, x (ix6 n o j k i l) := by
  refine congrArg (init + ·) ((sum_listed _ (fun q : Fin c × Fin d => (ix6 n o q.1 q.2 i l : (⟨6, ![a, b, c, d, e, f]⟩ : Shape).Idx))
    (fun q r e => Prod.ext (congrFun e 2) (congrFun e 3)) (fun t => ⟨fun e => ⟨(t 2, t 3), ?_⟩, ?_⟩) x).trans (Fintype.sum_prod_type _))
  · have e0 := congrFun e 0
    have e1 := congrFun e 1
    have e2 := congrFun e 2
    have e3 := congrFun e 3
    funext s; apply Fin.ext
    match s with
    | ⟨0, _⟩ => exact (congrArg Fin.val e0).symm
    | ⟨1, _⟩ => exact (congrArg Fin.val e1).symm
    | ⟨2, _⟩ => rfl
    | ⟨3, _⟩ => rfl
    | ⟨4, _⟩ => exact (congrArg Fin.val e2).symm
    | ⟨5, _⟩ => exact (congrArg Fin.val e3).symm
  · rintro ⟨q, rfl⟩
    funext s; apply Fin.ext
    match s with
    | ⟨0, _⟩ => rfl
    | ⟨1, _⟩ => rfl
    | ⟨2, _⟩ => rfl
    | ⟨3, _⟩ => rfl

end Cert.Image

namespace Cert.ReferenceIdeal.Value

open Idealize.ShloMosaic Idealize.ShloMosaic.Tactic Cert.ReferenceIdeal Cert.ReferenceIdeal.Gen Cert.Image Finset

/-- The image shifted up by `k` rows. -/
def down (S : FVec Ideal S4x1x2048x2048 .f32) (k : ℕ) (h : S4x1x2048x2048.Slices ![0, 0, k, 0] S4x1x2038x2048) : FVec Ideal S4x1x1x2038x2048 .f32 :=
  broadcastInDim S4x1x1x2038x2048 ![0, 1, 3, 4] bcast_S4x1x2038x2048_S4x1x1x2038x2048_0_1_3_4 (extractStridedSlice S4x1x2038x2048 ![0, 0, k, 0] S h)

theorem down_apply (S : FVec Ideal S4x1x2048x2048 .f32) (k : ℕ) (h) (n : Fin 4) (i : Fin 2038) (c : Fin 2048) (hk : k + i.val < 2048) :
    down S k h (ix5 n 0 0 i c) = S (ix4 n 0 ⟨k + i.val, hk⟩ c) := by
  pointwise [down]

/-- The eleven row shifts. -/
def rowShifts (S : FVec Ideal S4x1x2048x2048 .f32) : FVec Ideal S4x1x11x2038x2048 .f32 :=
  fn_main_v107 (F := Ideal) (down S 0 slices_S4x1x2048x2048_S4x1x2038x2048_0_0_0_0) (down S 1 slices_S4x1x2048x2048_S4x1x2038x2048_0_0_1_0)
    (down S 2 slices_S4x1x2048x2048_S4x1x2038x2048_0_0_2_0) (down S 3 slices_S4x1x2048x2048_S4x1x2038x2048_0_0_3_0)
    (down S 4 slices_S4x1x2048x2048_S4x1x2038x2048_0_0_4_0) (down S 5 slices_S4x1x2048x2048_S4x1x2038x2048_0_0_5_0)
    (down S 6 slices_S4x1x2048x2048_S4x1x2038x2048_0_0_6_0) (down S 7 slices_S4x1x2048x2048_S4x1x2038x2048_0_0_7_0)
    (down S 8 slices_S4x1x2048x2048_S4x1x2038x2048_0_0_8_0) (down S 9 slices_S4x1x2048x2048_S4x1x2038x2048_0_0_9_0)
    (down S 10 slices_S4x1x2048x2048_S4x1x2038x2048_0_0_10_0)

theorem rowShifts_apply (S : FVec Ideal S4x1x2048x2048 .f32) (n : Fin 4) (a : Fin 11) (i : Fin 2038) (c : Fin 2048) :
    rowShifts S (ix5 n 0 a i c) = S (ix4 n 0 ⟨a.val + i.val, by omega⟩ c) := by
  fin_cases a <;> pointwise [rowShifts, fn_main_v107, down]

/-- The shifted images shifted left by `k` columns. -/
def across (R : FVec Ideal S4x1x11x2038x2048 .f32) (k : ℕ) (h : S4x1x11x2038x2048.Slices ![0, 0, 0, 0, k] S4x1x11x2038x2038) :
    FVec Ideal S4x1x11x1x2038x2038 .f32 :=
  broadcastInDim S4x1x11x1x2038x2038 ![0, 1, 2, 4, 5] bcast_S4x1x11x2038x2038_S4x1x11x1x2038x2038_0_1_2_4_5
    (extractStridedSlice S4x1x11x2038x2038 ![0, 0, 0, 0, k] R h)

/-- The eleven column shifts of each. -/
def shifts (R : FVec Ideal S4x1x11x2038x2048 .f32) : FVec Ideal S4x1x11x11x2038x2038 .f32 :=
  fn_main_v130 (F := Ideal) (across R 0 slices_S4x1x11x2038x2048_S4x1x11x2038x2038_0_0_0_0_0) (across R 1 slices_S4x1x11x2038x2048_S4x1x11x2038x2038_0_0_0_0_1)
    (across R 2 slices_S4x1x11x2038x2048_S4x1x11x2038x2038_0_0_0_0_2) (across R 3 slices_S4x1x11x2038x2048_S4x1x11x2038x2038_0_0_0_0_3)
    (across R 4 slices_S4x1x11x2038x2048_S4x1x11x2038x2038_0_0_0_0_4) (across R 5 slices_S4x1x11x2038x2048_S4x1x11x2038x2038_0_0_0_0_5)
    (across R 6 slices_S4x1x11x2038x2048_S4x1x11x2038x2038_0_0_0_0_6) (across R 7 slices_S4x1x11x2038x2048_S4x1x11x2038x2038_0_0_0_0_7)
    (across R 8 slices_S4x1x11x2038x2048_S4x1x11x2038x2038_0_0_0_0_8) (across R 9 slices_S4x1x11x2038x2048_S4x1x11x2038x2038_0_0_0_0_9)
    (across R 10 slices_S4x1x11x2038x2048_S4x1x11x2038x2038_0_0_0_0_10)

theorem shifts_apply (R : FVec Ideal S4x1x11x2038x2048 .f32) (n : Fin 4) (a b : Fin 11) (i c : Fin 2038) :
    shifts R (ix6 n 0 a b i c) = R (ix5 n 0 a i ⟨b.val + c.val, by omega⟩) := by
  fin_cases b <;> pointwise [shifts, fn_main_v130, across]

/-- The 121 copies, each with its weight. -/
def weighted (lit : Fin S11x11.numel → BitVec 32) (S : FVec Ideal S4x1x2048x2048 .f32) : FVec Ideal S4x1x11x11x2038x2038 .f32 :=
  mulf (broadcastInDim S4x1x11x11x2038x2038 ![0, 1, 2, 3, 4, 5] bcast_S1x1x11x11x1x1_S4x1x11x11x2038x2038_0_1_2_3_4_5
    (broadcastInDim S1x1x11x11x1x1 ![2, 3] bcast_S11x11_S1x1x11x11x1x1_2_3 (fun i => Ideal.ofBits .f32 (lit (S11x11.rowMajor i)))))
    (shifts (rowShifts S))

theorem weighted_apply (lit : Fin S11x11.numel → BitVec 32) (S : FVec Ideal S4x1x2048x2048 .f32) (n : Fin 4) (a b : Fin 11) (i c : Fin 2038) :
    weighted lit S (ix6 n 0 a b i c) = Ideal.ofBits .f32 (lit (S11x11.rowMajor (ix2 a b)))
      * S (ix4 n 0 ⟨a.val + i.val, by omega⟩ ⟨b.val + c.val, by omega⟩) := by
  rw [← rowShifts_apply S n a i ⟨b.val + c.val, by omega⟩, ← shifts_apply (rowShifts S) n a b i c]
  pointwise [weighted]

/-- The window sums of an array whose image `n` is `s`, with the window `w`. -/
theorem taps_apply (lit : Fin S11x11.numel → BitVec 32) (w : ℕ → ℕ → EReal)
    (hw : ∀ a b : Fin 11, Ideal.ofBits .f32 (lit (S11x11.rowMajor (ix2 a b))) = w a.val b.val) (S : FVec Ideal S4x1x2048x2048 .f32)
    (n : Fin 4) (s : ℕ → ℕ → EReal) (hs : ∀ i c : Fin 2048, S (ix4 n 0 i c) = s i.val c.val) (i c : Fin 2038) :
    Host.reduceAdd (F := Ideal) (φ := .f32) (weighted lit S) (constant S_ .f32 0x00000000#32) reducesTo_S4x1x11x11x2038x2038_S4x1x2038x2038_d2_3 h_S_
      (ix4 n 0 i c) = window w s i.val c.val := by
  refine (sum_taps _ _ (Ideal.ofBits .f32 0x00000000#32) n 0 i c).trans ?_
  rw [show Ideal.ofBits .f32 0x00000000#32 = 0 by simp [Ideal.ofBits, Ideal.ieee], zero_add, window, sum_comm, sum_range]
  refine sum_congr rfl fun a _ => ?_
  rw [sum_range]
  refine sum_congr rfl fun b _ => ?_
  rw [weighted_apply, hw, hs, add_comm i.val, add_comm c.val]

end Cert.ReferenceIdeal.Value

end
-- ==== Proof.Weights.lean ====
/- BOTH PROGRAMS HAVE THE SAME WINDOW. The reference prints it five times, 121 words each; the kernel keeps it as half-width
   words in the first rows of its band matrix. Each half-width word is the upper half of the reference's. -/
module

public import proofs.«01_k».proof.KernelIdeal
public import proofs.«01_k».proof.ReferenceIdeal

@[expose] public section

set_option maxRecDepth 16384

noncomputable section

namespace Cert.Image

open Idealize.ShloMosaic

/-- A word stands for the same number as its upper half when its lower half is zero. -/
theorem ofBits_upper (x : BitVec 16) (y : BitVec 32) (h : y.toNat = 65536 * x.toNat) : Ideal.ofBits .f32 y = Ideal.ofBits .bf16 x := by
  have h1 : y.extractLsb' (8 + 23) 1 = x.extractLsb' (8 + 7) 1 :=
    BitVec.eq_of_toNat_eq (by simp only [BitVec.extractLsb'_toNat, Nat.shiftRight_eq_div_pow, h]; omega)
  have h2 : y.extractLsb' 23 8 = x.extractLsb' 7 8 :=
    BitVec.eq_of_toNat_eq (by simp only [BitVec.extractLsb'_toNat, Nat.shiftRight_eq_div_pow, h]; omega)
  have h3 : (y.extractLsb' 0 23).toNat = 2 ^ 16 * (x.extractLsb' 0 7).toNat := by
    simp only [BitVec.extractLsb'_toNat, Nat.shiftRight_eq_div_pow, h]; omega
  have e (z : ℤ) : (2 : ℝ) ^ (z - 7) = 2 ^ 16 * 2 ^ (z - 23) := by
    rw [show z - 7 = 16 + (z - 23) by ring, zpow_add₀ two_ne_zero]; norm_num
  unfold Ideal.ofBits Ideal.ieee
  simp only [h1, h2, h3]
  generalize (x.extractLsb' 0 7).toNat = f
  generalize (x.extractLsb' 7 8).toNat = g
  have hf : (2 ^ 16 * f = 0) ↔ f = 0 := by omega
  simp only [hf]
  by_cases h0 : g = 2 ^ 8 - 1
  · simp only [if_pos h0]
  by_cases h1 : g = 0
  · simp only [if_neg h0, if_pos h1]
    refine congrArg Real.toEReal ?_
    have e1 := e (1 - (2 ^ (8 - 1) - 1))
    push_cast at e1 ⊢
    rw [e1]
    ring
  · simp only [if_neg h0, if_neg h1]
    refine congrArg Real.toEReal ?_
    have e2 := e ((g : ℤ) - (2 ^ (8 - 1) - 1))
    push_cast at e2 ⊢
    rw [e2]
    ring

/-- The reference's words and the kernel's. -/
theorem words (k : Fin 121) : (ReferenceIdeal.lit0 k).toNat = 65536 * (KernelIdeal.lit0t (18432 * (k.val % 11) + k.val / 11)).toNat := by
  revert k
  decide +kernel

/-- The window's entry in row `a`, column `b`, as the two programs have it. -/
theorem weight_eq (a b : Fin 11) (k : Fin 121) (hk : k.val = 11 * a.val + b.val) :
    Ideal.ofBits .f32 (ReferenceIdeal.lit0 k) = Ideal.ofBits .bf16 (KernelIdeal.lit0t (18432 * b.val + a.val)) :=
  ofBits_upper _ _ ((words k).trans (by rw [show k.val % 11 = b.val by omega, show k.val / 11 = a.val by omega]))

theorem lit1_eq : ReferenceIdeal.lit1 = ReferenceIdeal.lit0 := rfl
theorem lit2_eq : ReferenceIdeal.lit2 = ReferenceIdeal.lit0 := rfl
theorem lit3_eq : ReferenceIdeal.lit3 = ReferenceIdeal.lit0 := rfl
theorem lit4_eq : ReferenceIdeal.lit4 = ReferenceIdeal.lit0 := rfl

end Cert.Image

end
-- ==== Proof.Similar.lean ====
/- THE REFERENCE'S STRUCTURAL SIMILARITY AND SQUARED ERROR, by coordinates. -/
module

public import proofs.«01_k».proof.Proof.Window
public import proofs.«01_k».proof.Proof.Weights
public import proofs.«01_k».proof.Proof.Array

@[expose] public section

set_option maxRecDepth 16384

noncomputable section

namespace Cert.ReferenceIdeal.Value

open Idealize.ShloMosaic Idealize.ShloMosaic.Tactic Idealize.ShloMosaic.TcCoe Cert.ReferenceIdeal Cert.ReferenceIdeal.Gen Cert.Image Finset
open Cert.KernelIdeal.Value (wt)

variable (V0 : Valuation τ sig (Elt Ideal))

/-- The prediction. -/
abbrev X : FVec Ideal S4x1x2048x2048 .f32 := V0 (Proc.devRef .tc main_arg0)
/-- The target. -/
abbrev Y : FVec Ideal S4x1x2048x2048 .f32 := V0 (Proc.devRef .tc main_arg1)

theorem v74_apply (n : Fin 4) (i c : Fin 2048) : res_main_v74 (F := Ideal) V0 (ix4 n 0 i c) = quant (img (X V0) n i.val c.val) := by
  rw [img_apply _ n i.isLt c.isLt]
  pointwise [res_main_v74, id_eq]
  rfl

theorem v84_apply (n : Fin 4) (i c : Fin 2048) : res_main_v84 (F := Ideal) V0 (ix4 n 0 i c) = quant (img (Y V0) n i.val c.val) := by
  rw [img_apply _ n i.isLt c.isLt]
  pointwise [res_main_v84, id_eq]
  rfl

theorem lit0_wt (a b : Fin 11) : Ideal.ofBits .f32 (lit0 (S11x11.rowMajor (ix2 a b))) = wt a.val b.val :=
  weight_eq a b _ ((Shape.rowMajor_val_two (ix2 a b)).trans (show a.val * 11 + b.val = _ by omega))

theorem v134_apply (n : Fin 4) (i c : Fin 2038) :
    res_main_v134 (F := Ideal) V0 (ix4 n 0 i c) = window wt (fun i c => quant (img (X V0) n i c)) i.val c.val :=
  taps_apply lit0 wt lit0_wt (res_main_v74 V0) n _ (v74_apply V0 n) i c

theorem v184_apply (n : Fin 4) (i c : Fin 2038) :
    res_main_v184 (F := Ideal) V0 (ix4 n 0 i c) = window wt (fun i c => quant (img (Y V0) n i c)) i.val c.val :=
  taps_apply lit1 wt lit0_wt (res_main_v84 V0) n _ (v84_apply V0 n) i c

/-- The map of structural similarities. -/
def similar : FVec Ideal S4x1x2038x2038 .f32 :=
  Host.divf (mulf (addf (mulf (broadcastInDim S4x1x2038x2038 ![] bcast_S_S4x1x2038x2038 (constant S_ .f32 0x40000000#32)) (res_main_v187 V0)) (broadcastInDim S4x1x2038x2038 ![] bcast_S_S4x1x2038x2038 (constant S_ .f32 0x40D0147B#32))) (addf (mulf (broadcastInDim S4x1x2038x2038 ![] bcast_S_S4x1x2038x2038 (constant S_ .f32 0x40000000#32)) (subf (Host.reduceAdd (F := Ideal) (φ := .f32) (res_main_v341 V0) (constant S_ .f32 0x00000000#32) reducesTo_S4x1x11x11x2038x2038_S4x1x2038x2038_d2_3 h_S_) (res_main_v187 V0))) (broadcastInDim S4x1x2038x2038 ![] bcast_S_S4x1x2038x2038 (constant S_ .f32 0x426A170A#32)))) (mulf (addf (addf (res_main_v185 V0) (res_main_v186 V0)) (broadcastInDim S4x1x2038x2038 ![] bcast_S_S4x1x2038x2038 (constant S_ .f32 0x40D0147B#32))) (addf (addf (subf (Host.reduceAdd (F := Ideal) (φ := .f32) (res_main_v237 V0) (constant S_ .f32 0x00000000#32) reducesTo_S4x1x11x11x2038x2038_S4x1x2038x2038_d2_3 h_S_) (res_main_v185 V0)) (subf (Host.reduceAdd (F := Ideal) (φ := .f32) (res_main_v289 V0) (constant S_ .f32 0x00000000#32) reducesTo_S4x1x11x11x2038x2038_S4x1x2038x2038_d2_3 h_S_) (res_main_v186 V0))) (broadcastInDim S4x1x2038x2038 ![] bcast_S_S4x1x2038x2038 (constant S_ .f32 0x426A170A#32))))

/-- Its mean over the batch, clipped. -/
def similarMean : FVec Ideal S_ .f32 :=
  minimumf (id (constant S_ .f32 0x3F800000#32)) (maximumf (id (constant S_ .f32 0x00000000#32)) (Host.divf (Host.reduceAdd (Host.divf (Host.reduceAdd (similar V0) (constant S_ .f32 0x00000000#32) reducesTo_S4x1x2038x2038_S4_d1_2_3 h_S_) (broadcastInDim S4 ![] bcast_S_S4 (constant S_ .f32 0x4A7D8190#32))) (constant S_ .f32 0x00000000#32) reducesTo_S4_S_d0 h_S_) (constant S_ .f32 0x40800000#32)))

theorem second_pp (n : Fin 4) (i c : Fin 2038) :
    Host.reduceAdd (F := Ideal) (φ := .f32) (res_main_v237 (F := Ideal) V0) (constant S_ .f32 0x00000000#32) reducesTo_S4x1x11x11x2038x2038_S4x1x2038x2038_d2_3 h_S_ (ix4 n 0 i c)
      = window wt (fun i c => quant (img (X V0) n i c) * quant (img (X V0) n i c)) i.val c.val :=
  taps_apply lit2 wt lit0_wt (res_main_v188 V0) n _ (fun i c => by rw [← v74_apply V0 n i c]; rfl) i c

theorem second_tt (n : Fin 4) (i c : Fin 2038) :
    Host.reduceAdd (F := Ideal) (φ := .f32) (res_main_v289 (F := Ideal) V0) (constant S_ .f32 0x00000000#32) reducesTo_S4x1x11x11x2038x2038_S4x1x2038x2038_d2_3 h_S_ (ix4 n 0 i c)
      = window wt (fun i c => quant (img (Y V0) n i c) * quant (img (Y V0) n i c)) i.val c.val :=
  taps_apply lit3 wt lit0_wt (res_main_v240 V0) n _ (fun i c => by rw [← v84_apply V0 n i c]; rfl) i c

theorem second_pt (n : Fin 4) (i c : Fin 2038) :
    Host.reduceAdd (F := Ideal) (φ := .f32) (res_main_v341 (F := Ideal) V0) (constant S_ .f32 0x00000000#32) reducesTo_S4x1x11x11x2038x2038_S4x1x2038x2038_d2_3 h_S_ (ix4 n 0 i c)
      = window wt (fun i c => quant (img (X V0) n i c) * quant (img (Y V0) n i c)) i.val c.val :=
  taps_apply lit4 wt lit0_wt (res_main_v292 V0) n _ (fun i c => by rw [← v74_apply V0 n i c, ← v84_apply V0 n i c]; rfl) i c

theorem similar_apply (n : Fin 4) (i c : Fin 2038) : similar V0 (ix4 n 0 i c) = ssimAt wt (img (X V0) n) (img (Y V0) n) i.val c.val := by
  unfold ssimAt
  rw [← v134_apply V0, ← v184_apply V0, ← second_pp V0, ← second_tt V0, ← second_pt V0]
  generalize hA : Host.reduceAdd (F := Ideal) (φ := .f32) (res_main_v237 (F := Ideal) V0) (constant S_ .f32 0x00000000#32) reducesTo_S4x1x11x11x2038x2038_S4x1x2038x2038_d2_3 h_S_ = A
  generalize hB : Host.reduceAdd (F := Ideal) (φ := .f32) (res_main_v289 (F := Ideal) V0) (constant S_ .f32 0x00000000#32) reducesTo_S4x1x11x11x2038x2038_S4x1x2038x2038_d2_3 h_S_ = B
  generalize hC : Host.reduceAdd (F := Ideal) (φ := .f32) (res_main_v341 (F := Ideal) V0) (constant S_ .f32 0x00000000#32) reducesTo_S4x1x11x11x2038x2038_S4x1x2038x2038_d2_3 h_S_ = C
  unfold similar
  rw [hA, hB, hC]
  pointwise [res_main_v185, res_main_v186, res_main_v187]
  rfl

theorem similarMean_eq : similarMean V0 = fun _ => ssimMean fun n => ∑ i ∈ range 2048, rowSsim wt (img (X V0) n) (img (Y V0) n) i := by
  funext o
  pointwise [similarMean, id_eq]
  refine congrArg (fun z => min 1 (max 0 (Ideal.div z images))) (sum_congr rfl fun n _ => congrArg (fun z => Ideal.div z windows) ?_)
  rw [sum_image3, zero_add]
  dsimp only
  rw [sum_rowSsim, sum_range]
  simp only [Fin.sum_univ_one, sum_range]
  exact sum_congr rfl fun i _ => sum_congr rfl fun c _ => similar_apply V0 n i c

end Cert.ReferenceIdeal.Value

end
-- ==== Proof.RefLoss.lean ====
/- THE LOSS AS THE REFERENCE HAS IT. It takes differences of each image before those of the pair, and sums the squared
   deviations from the mean themselves. Nothing here is about a program. -/
module

public import proofs.«01_k».proof.Proof.Loss

@[expose] public section

noncomputable section

namespace Cert.Image

open Idealize.ShloMosaic Finset

/-- The reference's changes from row to row. -/
def downRef (P T : ℕ → ℕ → EReal) : EReal :=
  ∑ i ∈ range 2047, ∑ c ∈ range 2048, mag (P i c - P (i + 1) c - (T i c - T (i + 1) c))

/-- The reference's changes from column to column. -/
def acrossRef (P T : ℕ → ℕ → EReal) : EReal :=
  ∑ i ∈ range 2048, ∑ c ∈ range 2047, mag (P i c - P i (c + 1) - (T i c - T i (c + 1)))

/-- The mean of an image. -/
def mean (P : ℕ → ℕ → EReal) : EReal := Ideal.div (∑ i ∈ range 2048, rowSum P i) pixels

/-- The sum of an image's squared deviations from `m`. -/
def centred (P : ℕ → ℕ → EReal) (m : EReal) : EReal := ∑ i ∈ range 2048, ∑ c ∈ range 2048, (P i c - m) * (P i c - m)

/-- The loss of a batch, given the mean structural similarity. -/
def lossRef (P T : Fin 4 → ℕ → ℕ → EReal) (ssim : EReal) : EReal :=
  loss (∑ n, ∑ i ∈ range 2048, rowAbs (P n) (T n) i) (∑ n, downRef (P n) (T n)) (∑ n, acrossRef (P n) (T n))
    (meanSquare (fun n => mean (P n)) fun n => mean (T n))
    (meanSquare (fun n => deviation (centred (P n) (mean (P n)))) fun n => deviation (centred (T n) (mean (T n))))
    (∑ n, ∑ i ∈ range 2048, rowOver (P n) i) ssim

/-- The reference's decibels: ten times the logarithm to base ten, as a quotient of two logarithms. -/
def decibelsRef (x : EReal) : EReal :=
  Ideal.ofBits .f32 0x41200000#32 * Ideal.div (Ideal.log x) (Ideal.log (Ideal.ofBits .f32 0x41200000#32))

end Cert.Image

end
-- ==== Proof.Reference.lean ====
/- WHAT THE REFERENCE COMPUTES: its three results, of the images by row and column. -/
module

public import proofs.«01_k».proof.Proof.Similar
public import proofs.«01_k».proof.Proof.RefLoss

@[expose] public section

set_option maxRecDepth 16384

noncomputable section

namespace Cert.ReferenceIdeal.Value

open Idealize.ShloMosaic Idealize.ShloMosaic.Tactic Idealize.ShloMosaic.TcCoe Idealize.ShloMosaic.StableHlo
open Cert.ReferenceIdeal Cert.ReferenceIdeal.Gen Cert.Image Finset Idealize.SL.Sem
open Cert.KernelIdeal.Value (wt)

variable (V0 : Valuation τ sig (Elt Ideal))

/-- The images' squared errors. -/
theorem v371_apply (n : Fin 4) :
    res_main_v371 (F := Ideal) V0 (ix1 n) = Ideal.div (∑ i ∈ range 2048, rowErr (img (X V0) n) (img (Y V0) n) i) pixels := by
  pointwise [res_main_v371]
  refine congrArg (fun z => Ideal.div z pixels) ?_
  rw [sum_image3, zero_add]
  simp only [Fin.sum_univ_one, sum_range, rowErr, ← v74_apply, ← v84_apply]
  rfl

/-- The signal-to-noise ratio. -/
def noise : FVec Ideal S_ .f32 :=
  Host.divf (Host.reduceAdd (select (cmpf .oeq (res_main_v371 V0) (broadcastInDim S4 ![] bcast_S_S4 (constant S_ .f32 0x00000000#32))) (broadcastInDim S4 ![] bcast_S_S4 (id (constant S_ .f32 0x42C80000#32))) (mulf (broadcastInDim S4 ![] bcast_S_S4 (constant S_ .f32 0x41200000#32)) (Host.divf (Host.log (Host.divf (broadcastInDim S4 ![] bcast_S_S4 (constant S_ .f32 0x477E0100#32)) (maximumf (res_main_v371 V0) (broadcastInDim S4 ![] bcast_S_S4 (constant S_ .f32 0x2B8CBCCC#32))))) (broadcastInDim S4 ![] bcast_S_S4 (Host.log (constant S_ .f32 0x41200000#32)))))) (constant S_ .f32 0x00000000#32) reducesTo_S4_S_d0 h_S_) (constant S_ .f32 0x40800000#32)

theorem noise_eq : noise V0 = fun _ => psnrMean decibelsRef fun n => ∑ i ∈ range 2048, rowErr (img (X V0) n) (img (Y V0) n) i := by
  funext o
  unfold psnrMean
  simp only [← v371_apply]
  pointwise [noise, id_eq]
  rfl

/-- The means' differences. -/
theorem v31_apply (n : Fin 4) : res_main_v31 (F := Ideal) V0 (ix2 n 0) = (mean (img (X V0) n) - mean (img (Y V0) n) : EReal) := by
  pointwise [res_main_v31, res_main_v27, res_main_v30]
  simp only [mean, rowSum, sum_range, img_apply _ _ (Fin.isLt _) (Fin.isLt _)]

theorem v27_apply (n : Fin 4) : res_main_v27 (F := Ideal) V0 (ix2 n 0) = mean (img (X V0) n) := by
  pointwise [res_main_v27]
  simp only [mean, rowSum, sum_range, img_apply _ _ (Fin.isLt _) (Fin.isLt _)]

theorem v30_apply (n : Fin 4) : res_main_v30 (F := Ideal) V0 (ix2 n 0) = mean (img (Y V0) n) := by
  pointwise [res_main_v30]
  simp only [mean, rowSum, sum_range, img_apply _ _ (Fin.isLt _) (Fin.isLt _)]

/-- The deviations' differences. -/
theorem v51_apply (n : Fin 4) : res_main_v51 (F := Ideal) V0 (ix2 n 0)
    = (deviation (centred (img (X V0) n) (mean (img (X V0) n))) - deviation (centred (img (Y V0) n) (mean (img (Y V0) n))) : EReal) := by
  pointwise [res_main_v51, res_main_v37, res_main_v45]
  rw [v27_apply, v30_apply]
  simp only [deviation, centred, sum_range, img_apply _ _ (Fin.isLt _) (Fin.isLt _)]

/-- The absolute differences. -/
theorem abs_eq (o : S_.Idx) : Ideal.hostReduceAdd reducesTo_S4x1x2048x2048_S_d0_1_2_3 (Host.absf (subf (X V0) (Y V0))) 0 o
    = ∑ n, ∑ i ∈ range 2048, rowAbs (img (X V0) n) (img (Y V0) n) i := by
  refine (sum_batch _ _ _ _).trans ?_
  simp only [zero_add, Fin.sum_univ_one, sum_range, rowAbs, img_apply _ _ (Fin.isLt _) (Fin.isLt _)]
  rfl

theorem over_eq (o : S_.Idx) : Ideal.hostReduceAdd reducesTo_S4x1x2048x2048_S_d0_1_2_3
      (maximumf (subf (Host.absf (X V0)) (broadcastInDim S4x1x2048x2048 ![] bcast_S_S4x1x2048x2048 (constant S_ FTy.f32 0x3F800000#32)))
        (broadcastInDim S4x1x2048x2048 ![] bcast_S_S4x1x2048x2048 (constant S_ FTy.f32 0x00000000#32))) 0 o
    = ∑ n, ∑ i ∈ range 2048, rowOver (img (X V0) n) i := by
  refine (sum_batch _ _ _ _).trans ?_
  simp only [zero_add, Fin.sum_univ_one, sum_range, rowOver, img_apply _ _ (Fin.isLt _) (Fin.isLt _)]
  refine sum_congr rfl fun n _ => sum_congr rfl fun i _ => sum_congr rfl fun c _ => ?_
  pointwise []
  rfl

theorem down_eq (o : S_.Idx) : Ideal.hostReduceAdd reducesTo_S4x1x2047x2048_S_d0_1_2_3
      (Host.absf (subf (subf (extractStridedSlice S4x1x2047x2048 ![0, 0, 0, 0] (X V0) slices_S4x1x2048x2048_S4x1x2047x2048_0_0_0_0)
          (extractStridedSlice S4x1x2047x2048 ![0, 0, 1, 0] (X V0) slices_S4x1x2048x2048_S4x1x2047x2048_0_0_1_0))
        (subf (extractStridedSlice S4x1x2047x2048 ![0, 0, 0, 0] (Y V0) slices_S4x1x2048x2048_S4x1x2047x2048_0_0_0_0)
          (extractStridedSlice S4x1x2047x2048 ![0, 0, 1, 0] (Y V0) slices_S4x1x2048x2048_S4x1x2047x2048_0_0_1_0)))) 0 o
    = ∑ n, downRef (img (X V0) n) (img (Y V0) n) := by
  refine (sum_batch _ _ _ _).trans ?_
  simp only [zero_add, Fin.sum_univ_one, sum_range, downRef]
  refine sum_congr rfl fun n _ => sum_congr rfl fun i _ => sum_congr rfl fun c _ => ?_
  have h : i.val < 2048 := by omega
  have h' : i.val + 1 < 2048 := by omega
  rw [img_apply _ n h c.isLt, img_apply _ n h c.isLt, img_apply _ n h' c.isLt, img_apply _ n h' c.isLt]
  pointwise []
  simp only [Nat.add_comm 1]
  rfl

theorem across_eq (o : S_.Idx) : Ideal.hostReduceAdd reducesTo_S4x1x2048x2047_S_d0_1_2_3
      (Host.absf (subf (subf (extractStridedSlice S4x1x2048x2047 ![0, 0, 0, 0] (X V0) slices_S4x1x2048x2048_S4x1x2048x2047_0_0_0_0)
          (extractStridedSlice S4x1x2048x2047 ![0, 0, 0, 1] (X V0) slices_S4x1x2048x2048_S4x1x2048x2047_0_0_0_1))
        (subf (extractStridedSlice S4x1x2048x2047 ![0, 0, 0, 0] (Y V0) slices_S4x1x2048x2048_S4x1x2048x2047_0_0_0_0)
          (extractStridedSlice S4x1x2048x2047 ![0, 0, 0, 1] (Y V0) slices_S4x1x2048x2048_S4x1x2048x2047_0_0_0_1)))) 0 o
    = ∑ n, acrossRef (img (X V0) n) (img (Y V0) n) := by
  refine (sum_batch _ _ _ _).trans ?_
  simp only [zero_add, Fin.sum_univ_one, sum_range, acrossRef]
  refine sum_congr rfl fun n _ => sum_congr rfl fun i _ => sum_congr rfl fun c _ => ?_
  have h : c.val < 2048 := by omega
  have h' : c.val + 1 < 2048 := by omega
  rw [img_apply _ n i.isLt h, img_apply _ n i.isLt h, img_apply _ n i.isLt h', img_apply _ n i.isLt h']
  pointwise []
  simp only [Nat.add_comm 1]
  rfl

theorem v394_eq : res_main_v394 (F := Ideal) V0
    = fun _ => lossRef (fun n => img (X V0) n) (fun n => img (Y V0) n)
        (ssimMean fun n => ∑ i ∈ range 2048, rowSsim wt (img (X V0) n) (img (Y V0) n) i) := by
  funext o
  show (addf (_ : FVec Ideal S_ .f32) (mulf _ (subf _ (similarMean V0)))) o = _
  rw [similarMean_eq]
  generalize (ssimMean fun n => ∑ i ∈ range 2048, rowSsim wt (img (X V0) n) (img (Y V0) n) i) = z
  pointwise []
  rw [abs_eq V0, over_eq V0, down_eq V0, across_eq V0]
  simp only [Fin.sum_univ_one, v31_apply, v51_apply, lossRef, loss, meanSquare]

variable (m : (ℓ : Loc nD τ sig) → Buf (Elt Ideal) ℓ) (ρ : Dev nD → PrngReg)

/-- Image `n` of the prediction. -/
abbrev pred (c : Dev nD) (n : Fin 4) : ℕ → ℕ → EReal := img (m ((c : Thread nD τ).loc main_arg0)) n
/-- Image `n` of the target. -/
abbrev targ (c : Dev nD) (n : Fin 4) : ℕ → ℕ → EReal := img (m ((c : Thread nD τ).loc main_arg1)) n

theorem results : θ_run defs (onTc (τ := τ) (main (F := Ideal))) ⟨m, fun _ => 0, ρ⟩ fun r => ∀ c : Dev nD,
    r.2.mem ((c : Thread nD τ).loc main_v394) = (fun _ => lossRef (pred m c) (targ m c)
        (ssimMean fun n => ∑ i ∈ range 2048, rowSsim wt (pred m c n) (targ m c n) i))
    ∧ r.2.mem ((c : Thread nD τ).loc main_v386) = (fun _ => psnrMean decibelsRef fun n => ∑ i ∈ range 2048, rowErr (pred m c n) (targ m c n) i)
    ∧ r.2.mem ((c : Thread nD τ).loc main_v366) = (fun _ => ssimMean fun n => ∑ i ∈ range 2048, rowSsim wt (pred m c n) (targ m c n) i)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (v394_eq (launchContents m c)), (h c).2.1.trans (noise_eq (launchContents m c)),
    (h c).2.2.1.trans (similarMean_eq (launchContents m c)), (h c).2.2.2.1, (h c).2.2.2.2⟩) (run (F := Ideal) m ρ)

end Cert.ReferenceIdeal.Value

end
-- ==== Proof.Equal.lean ====
/- THE TWO LOSSES ARE ONE. On images whose entries are all finite the kernel's parts are the reference's, one by one. With an
   infinite entry anywhere the absolute difference is infinite, no other part is negative, and both losses are infinite. -/
module

public import proofs.«01_k».proof.Proof.RefLoss

@[expose] public section

noncomputable section

namespace Cert.Image

open Idealize.ShloMosaic Finset

/-! ## Infinite values -/

/-- One of the two infinities. -/
def Infinite (x : EReal) : Prop := x = ⊤ ∨ x = ⊥

theorem infinite_or (x : EReal) : Infinite x ∨ ∃ r : ℝ, x = r := by
  induction x using EReal.rec with
  | bot => exact .inl (.inr rfl)
  | top => exact .inl (.inl rfl)
  | coe r => exact .inr ⟨r, rfl⟩

theorem infinite_sub {x y : EReal} (h : Infinite x ∨ Infinite y) : Infinite (x - y) := by
  unfold Infinite at *
  induction x using EReal.rec <;> induction y using EReal.rec <;> simp_all [sub_eq_add_neg]

theorem mag_infinite {x : EReal} (h : Infinite x) : mag x = ⊤ := by
  rcases h with rfl | rfl <;> simp [mag]

theorem mag_nonneg (x : EReal) : 0 ≤ mag x := by
  unfold mag
  rcases le_total 0 x with h | h
  · exact le_max_of_le_left h
  · exact le_max_of_le_right (by simpa using EReal.neg_le_neg_iff.mpr h)

/-- The difference of differences, in either order. -/
theorem mag_swap (a t b u : EReal) : mag (a - t - (b - u)) = mag (a - b - (t - u)) := by
  rcases infinite_or a with h | ⟨a, rfl⟩
  · rw [mag_infinite (infinite_sub (.inl (infinite_sub (.inl h)))), mag_infinite (infinite_sub (.inl (infinite_sub (.inl h))))]
  rcases infinite_or t with h | ⟨t, rfl⟩
  · rw [mag_infinite (infinite_sub (.inl (infinite_sub (.inr h)))), mag_infinite (infinite_sub (.inr (infinite_sub (.inl h))))]
  rcases infinite_or b with h | ⟨b, rfl⟩
  · rw [mag_infinite (infinite_sub (.inr (infinite_sub (.inl h)))), mag_infinite (infinite_sub (.inl (infinite_sub (.inr h))))]
  rcases infinite_or u with h | ⟨u, rfl⟩
  · rw [mag_infinite (infinite_sub (.inr (infinite_sub (.inr h)))), mag_infinite (infinite_sub (.inr (infinite_sub (.inr h))))]
  simp only [← EReal.coe_sub]
  rw [show a - t - (b - u) = a - b - (t - u) by ring]

variable (P T : Fin 4 → ℕ → ℕ → EReal)

theorem down_swap (n : Fin 4) : ∑ i ∈ range 2048, rowDown (P n) (T n) i = downRef (P n) (T n) :=
  (sum_rowDown _ _).trans (sum_congr rfl fun _ _ => sum_congr rfl fun _ _ => mag_swap _ _ _ _)

theorem across_swap (n : Fin 4) : ∑ i ∈ range 2048, rowAcross (P n) (T n) i = acrossRef (P n) (T n) :=
  sum_congr rfl fun _ _ => sum_congr rfl fun _ _ => mag_swap _ _ _ _

/-! ## Finite images -/

/-- Every entry is finite. -/
def Finite (P : ℕ → ℕ → EReal) : Prop := ∀ i < 2048, ∀ c < 2048, ¬ Infinite (P i c)

theorem pixels_eq : pixels = ((4194304 : ℝ) : EReal) := by
  simp [pixels, Ideal.ofBits, Ideal.ieee, -EReal.coe_mul]; norm_num

theorem coe_sum (s : Finset ℕ) (f : ℕ → ℝ) : ((∑ i ∈ s, f i : ℝ) : EReal) = ∑ i ∈ s, (f i : EReal) := by
  induction s using Finset.cons_induction with
  | empty => simp
  | cons a s h ih => rw [sum_cons, sum_cons, EReal.coe_add, ih]

theorem spread_real (p : ℕ → ℕ → ℝ) :
    ∑ i ∈ range 2048, ∑ c ∈ range 2048, (p i c - (∑ i ∈ range 2048, ∑ c ∈ range 2048, p i c) * (1 / 4194304)) * (p i c - (∑ i ∈ range 2048, ∑ c ∈ range 2048, p i c) * (1 / 4194304))
      = (∑ i ∈ range 2048, ∑ c ∈ range 2048, p i c * p i c)
        - 4194304 * ((∑ i ∈ range 2048, ∑ c ∈ range 2048, p i c) * (1 / 4194304)) * ((∑ i ∈ range 2048, ∑ c ∈ range 2048, p i c) * (1 / 4194304)) := by
  generalize hS : ∑ i ∈ range 2048, ∑ c ∈ range 2048, p i c = S
  have h : ∀ i c, (p i c - S * (1 / 4194304)) * (p i c - S * (1 / 4194304))
      = p i c * p i c - 2 * (S * (1 / 4194304)) * p i c + (S * (1 / 4194304)) * (S * (1 / 4194304)) := fun i c => by ring
  simp only [h, sum_add_distrib, sum_sub_distrib, ← mul_sum, hS, sum_const, card_range, nsmul_eq_mul]
  ring

/-- On a finite image the sum of the squared deviations is the kernel's expression of it. -/
theorem spread_eq (P : ℕ → ℕ → EReal) (h : Finite P) :
    spread (∑ i ∈ range 2048, rowSum P i) (∑ i ∈ range 2048, rowSq P i) = centred P (mean P) := by
  have hp : ∀ i < 2048, ∀ c < 2048, P i c = ((P i c).toReal : EReal) := fun i hi c hc => by
    rcases infinite_or (P i c) with h' | ⟨r, hr⟩
    · exact absurd h' (h i hi c hc)
    · rw [hr, EReal.toReal_coe]
  generalize hq : (fun i c => (P i c).toReal) = p at *
  replace hp : ∀ i < 2048, ∀ c < 2048, P i c = (p i c : EReal) := fun i hi c hc => by rw [← hq]; exact hp i hi c hc
  have e1 : ∑ i ∈ range 2048, rowSum P i = ((∑ i ∈ range 2048, ∑ c ∈ range 2048, p i c : ℝ) : EReal) := by
    simp only [coe_sum]
    exact sum_congr rfl fun i hi => sum_congr rfl fun c hc => hp i (mem_range.mp hi) c (mem_range.mp hc)
  have e2 : ∑ i ∈ range 2048, rowSq P i = ((∑ i ∈ range 2048, ∑ c ∈ range 2048, p i c * p i c : ℝ) : EReal) := by
    simp only [coe_sum, EReal.coe_mul]
    exact sum_congr rfl fun i hi => sum_congr rfl fun c hc => by rw [hp i (mem_range.mp hi) c (mem_range.mp hc)]
  have em : mean P = (((∑ i ∈ range 2048, ∑ c ∈ range 2048, p i c) * (1 / 4194304) : ℝ) : EReal) := by
    rw [mean, e1, pixels_eq, Ideal.div_coe (by norm_num), EReal.coe_mul]
  have e3 : centred P (mean P) = ((∑ i ∈ range 2048, ∑ c ∈ range 2048,
      (p i c - (∑ i ∈ range 2048, ∑ c ∈ range 2048, p i c) * (1 / 4194304)) * (p i c - (∑ i ∈ range 2048, ∑ c ∈ range 2048, p i c) * (1 / 4194304)) : ℝ) : EReal) := by
    rw [centred, em]
    generalize (∑ i ∈ range 2048, ∑ c ∈ range 2048, p i c) * (1 / 4194304) = m
    simp only [coe_sum]
    refine sum_congr rfl fun i hi => sum_congr rfl fun c hc => ?_
    rw [hp i (mem_range.mp hi) c (mem_range.mp hc), ← EReal.coe_sub, ← EReal.coe_mul]
  have hn : (0 : ℝ) ≤ ∑ i ∈ range 2048, ∑ c ∈ range 2048,
      (p i c - (∑ i ∈ range 2048, ∑ c ∈ range 2048, p i c) * (1 / 4194304)) * (p i c - (∑ i ∈ range 2048, ∑ c ∈ range 2048, p i c) * (1 / 4194304)) :=
    sum_nonneg fun i _ => sum_nonneg fun c _ => mul_self_nonneg _
  rw [e3, spread, show Ideal.div (∑ i ∈ range 2048, rowSum P i) pixels = _ from em, e2, pixels_eq, ← EReal.coe_mul, ← EReal.coe_mul, ← EReal.coe_sub,
    ← spread_real p]
  exact max_eq_left (by exact_mod_cast hn)

/-! ## An infinite entry -/

theorem abs_top {n : Fin 4} {i c : ℕ} (hi : i < 2048) (hc : c < 2048) (h : Infinite (P n i c) ∨ Infinite (T n i c)) :
    ∑ n, ∑ i ∈ range 2048, rowAbs (P n) (T n) i = ⊤ := by
  refine top_le_iff.mp ?_
  have h0 : ∀ m j, 0 ≤ rowAbs (P m) (T m) j := fun m j => sum_nonneg fun _ _ => mag_nonneg _
  calc ⊤ = mag (P n i c - T n i c) := (mag_infinite (infinite_sub h)).symm
    _ ≤ rowAbs (P n) (T n) i := single_le_sum (f := fun c => mag (P n i c - T n i c)) (fun _ _ => mag_nonneg _) (mem_range.mpr hc)
    _ ≤ ∑ i ∈ range 2048, rowAbs (P n) (T n) i := single_le_sum (fun j _ => h0 n j) (mem_range.mpr hi)
    _ ≤ _ := single_le_sum (f := fun n => ∑ i ∈ range 2048, rowAbs (P n) (T n) i) (fun m _ => sum_nonneg fun j _ => h0 m j) (mem_univ n)

/-- A positive word: a number that is not negative, and dividing by it keeps the sign. -/
theorem div_nonneg {x : EReal} {y : ℝ} (hy : 0 < y) (hx : 0 ≤ x) : 0 ≤ Ideal.div x (y : EReal) := by
  rw [Ideal.div_coe hy.ne']
  exact mul_nonneg hx (by exact_mod_cast (one_div_pos.mpr hy).le)

theorem batchPixels_eq : batchPixels = ((16777216 : ℝ) : EReal) := by
  simp [batchPixels, Ideal.ofBits, Ideal.ieee, -EReal.coe_mul]; norm_num

theorem batchPairs_eq : batchPairs = ((16769024 : ℝ) : EReal) := by
  simp [batchPairs, Ideal.ofBits, Ideal.ieee, -EReal.coe_mul]

theorem images_eq : images = ((4 : ℝ) : EReal) := by
  simp [images, Ideal.ofBits, Ideal.ieee, -EReal.coe_mul]; norm_num

theorem square_nonneg (x : EReal) : 0 ≤ x * x := by
  rcases le_total 0 x with h | h
  · exact mul_nonneg h h
  · rw [← neg_mul_neg]
    have h' : 0 ≤ -x := by simpa using EReal.neg_le_neg_iff.mpr h
    exact mul_nonneg h' h'

theorem meanSquare_nonneg (a b : Fin 4 → EReal) : 0 ≤ meanSquare a b := by
  rw [meanSquare, images_eq]
  exact div_nonneg (by norm_num) (sum_nonneg fun n _ => square_nonneg _)

/-- With an infinite absolute difference the loss is infinite. -/
theorem loss_top (down across energy dist over ssim : EReal) (h1 : 0 ≤ down) (h2 : 0 ≤ across) (h3 : 0 ≤ energy) (h4 : 0 ≤ dist)
    (h5 : 0 ≤ over) (h6 : ssim ≤ 1) : loss ⊤ down across energy dist over ssim = ⊤ := by
  have w15 : 0 ≤ Ideal.ofBits .f32 0x3E19999A#32 := by
    simp [Ideal.ofBits, Ideal.ieee, -EReal.coe_mul]
  have w05 : 0 ≤ Ideal.ofBits .f32 0x3D4CCCCD#32 := by
    simp [Ideal.ofBits, Ideal.ieee, -EReal.coe_mul]
  have w5 : 0 ≤ Ideal.ofBits .f32 0x3F000000#32 := by
    simp [Ideal.ofBits, Ideal.ieee, -EReal.coe_mul]
  have w1 : 0 ≤ Ideal.ofBits .f32 0x3DCCCCCD#32 := by
    simp [Ideal.ofBits, Ideal.ieee, -EReal.coe_mul]
  have hs : 0 ≤ 1 - ssim := by
    induction ssim using EReal.rec with
    | bot => rw [sub_eq_add_neg, EReal.neg_bot, ← EReal.coe_one, EReal.coe_add_top]; exact le_top
    | top => exact absurd (top_le_iff.mp h6) (EReal.coe_ne_top 1)
    | coe r => exact_mod_cast sub_nonneg.mpr (EReal.coe_le_coe_iff.mp h6)
  have ht : Ideal.div ⊤ batchPixels = ⊤ := by
    rw [batchPixels_eq, Ideal.div_coe (by norm_num)]
    exact EReal.top_mul_coe_of_pos (by norm_num)
  unfold loss
  rw [ht, batchPixels_eq, batchPairs_eq]
  have hA : 0 ≤ Ideal.ofBits .f32 0x3E19999A#32 * (Ideal.div down ((16769024 : ℝ) : EReal) + Ideal.div across ((16769024 : ℝ) : EReal)) :=
    mul_nonneg w15 (add_nonneg (div_nonneg (by norm_num) h1) (div_nonneg (by norm_num) h2))
  have hB : 0 ≤ Ideal.ofBits .f32 0x3D4CCCCD#32 * (energy + Ideal.ofBits .f32 0x3F000000#32 * dist
      + Ideal.ofBits .f32 0x3DCCCCCD#32 * Ideal.div over ((16777216 : ℝ) : EReal)) :=
    mul_nonneg w05 (add_nonneg (add_nonneg h3 (mul_nonneg w5 h4)) (mul_nonneg w1 (div_nonneg (by norm_num) h5)))
  have hC : 0 ≤ Ideal.ofBits .f32 0x3DCCCCCD#32 * (1 - ssim) := mul_nonneg w1 hs
  have ne {x : EReal} (h : 0 ≤ x) : x ≠ ⊥ := fun e => absurd (e ▸ h) (by simp)
  rw [EReal.top_add_of_ne_bot (ne hA), EReal.top_add_of_ne_bot (ne hB), EReal.top_add_of_ne_bot (ne hC)]

/-- The two losses. -/
theorem loss_eq (ssim : EReal) (hs : ssim ≤ 1) :
    loss (∑ n, ∑ i ∈ range 2048, rowAbs (P n) (T n) i) (∑ n, ∑ i ∈ range 2048, rowDown (P n) (T n) i)
      (∑ n, ∑ i ∈ range 2048, rowAcross (P n) (T n) i) (meanSquare (fun n => mean (P n)) fun n => mean (T n))
      (meanSquare (fun n => deviation (spread (∑ i ∈ range 2048, rowSum (P n) i) (∑ i ∈ range 2048, rowSq (P n) i)))
        fun n => deviation (spread (∑ i ∈ range 2048, rowSum (T n) i) (∑ i ∈ range 2048, rowSq (T n) i)))
      (∑ n, ∑ i ∈ range 2048, rowOver (P n) i) ssim
    = lossRef P T ssim := by
  unfold lossRef
  simp only [down_swap, across_swap]
  by_cases h : ∀ n, Finite (P n) ∧ Finite (T n)
  · simp only [fun n => spread_eq (P n) (h n).1, fun n => spread_eq (T n) (h n).2]
  · have : ∃ n, ∃ i < 2048, ∃ c < 2048, Infinite (P n i c) ∨ Infinite (T n i c) := by
      by_contra hc
      push Not at hc
      exact h fun n => ⟨fun i hi c hc' => (hc n i hi c hc').1, fun i hi c hc' => (hc n i hi c hc').2⟩
    obtain ⟨n, i, hi, c, hc, hx⟩ := this
    rw [abs_top P T hi hc hx]
    have hd : 0 ≤ ∑ n, downRef (P n) (T n) := sum_nonneg fun n _ => sum_nonneg fun i _ => sum_nonneg fun c _ => mag_nonneg _
    have ha : 0 ≤ ∑ n, acrossRef (P n) (T n) := sum_nonneg fun n _ => sum_nonneg fun i _ => sum_nonneg fun c _ => mag_nonneg _
    have ho : 0 ≤ ∑ n, ∑ i ∈ range 2048, rowOver (P n) i := sum_nonneg fun n _ => sum_nonneg fun i _ => sum_nonneg fun c _ => le_max_right _ _
    rw [loss_top _ _ _ _ _ _ hd ha (meanSquare_nonneg _ _) (meanSquare_nonneg _ _) ho hs,
      loss_top _ _ _ _ _ _ hd ha (meanSquare_nonneg _ _) (meanSquare_nonneg _ _) ho hs]

/-- Ten over the natural logarithm of ten, times a logarithm, is the reference's decibels. -/
theorem decibels_eq (x : EReal) : ((10 * (Real.log 10)⁻¹ : ℝ) : EReal) * Ideal.log x = decibelsRef x := by
  have h : Ideal.ofBits .f32 0x41200000#32 = ((10 : ℝ) : EReal) := by
    simp [Ideal.ofBits, Ideal.ieee, -EReal.coe_mul]; norm_num
  have hl : Real.log 10 ≠ 0 := (Real.log_pos (by norm_num)).ne'
  rw [decibelsRef, h, Ideal.log_coe, if_neg (by norm_num), Ideal.div_coe hl, one_div, EReal.coe_mul, mul_assoc, mul_comm (Ideal.log x)]

end Cert.Image

end
-- ==== Proof.lean ====
/- The proof of the certificate's claims: the kernel's two programs and the reference terminate with their arguments unchanged,
   the two kernels differ by the named constant only, and the kernel's three results are the reference's on all arguments. -/
module

public import proofs.«01_k».proof.Defs
public import proofs.«01_k».proof.Proof.Gen.Kernel
public import proofs.«01_k».proof.Proof.Gen.Kernel.Frame
public import proofs.«01_k».proof.Proof.KernelRun
public import proofs.«01_k».proof.Proof.Reference
public import proofs.«01_k».proof.Proof.Equal
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem Cert.Image Finset

/-- The kernel's loss is the reference's. -/
theorem loss_agree (X Y : FVec Ideal ⟨4, ![4, 1, 2048, 2048]⟩ .f32) :
    KernelIdeal.Value.lossK X Y = lossRef (fun n => img X n) (fun n => img Y n)
      (ssimMean fun n => ∑ i ∈ range 2048, rowSsim KernelIdeal.Value.wt (img X n) (img Y n) i) :=
  loss_eq (fun n => img X n) (fun n => img Y n) _ (min_le_left _ _)

/-- The kernel's decibels are the reference's. -/
theorem decibels_agree : KernelIdeal.Value.decibels = decibelsRef := by
  funext x
  rw [KernelIdeal.Value.decibels, IdealRules.named_const.ideal_named_scalar _ _ _ ((10 * (Real.log 10)⁻¹ : ℝ) : EReal) rfl]
  exact decibels_eq x

theorem algebraic : Cert.algebraic_KernelIdeal_ReferenceIdeal (hKernelIdeal := Cert.KernelIdeal.Gen.facts)
    (hReferenceIdeal := Cert.ReferenceIdeal.Gen.facts) := by
  pair_intro
  · exact KernelIdeal.Value.run m g
  · refine (θ_run ReferenceIdeal.defs _ _).mono (fun r h c => ⟨(h c).1.trans (funext fun _ => ?_), (h c).2.1.trans (funext fun _ => ?_),
      (h c).2.2.1.trans (funext fun _ => ?_), (h c).2.2.2.1, (h c).2.2.2.2⟩) (ReferenceIdeal.Value.results m' g')
    · rw [loss_agree]
      unfold ReferenceIdeal.Value.pred ReferenceIdeal.Value.targ
      simp only [(hagree c).1, (hagree c).2]
    · rw [decibels_agree]
      simp only [ReferenceIdeal.Value.pred, ReferenceIdeal.Value.targ, (hagree c).1, (hagree c).2]
    · simp only [ReferenceIdeal.Value.pred, ReferenceIdeal.Value.targ, (hagree c).1, (hagree c).2]

theorem reference_frame : Cert.quiescent_ReferenceIdeal (hReferenceIdeal := Cert.ReferenceIdeal.Gen.facts) := by
  intro m ρ _
  exact (θ_run ReferenceIdeal.defs _ _).mono (fun r h => ⟨fun c => (h c).2.2.2, Idealize.ShloMosaic.sem_eq_zero_of_no_sems (by decide) r.2⟩)
    (ReferenceIdeal.Value.results m ρ)

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame,
  IdealRules.named_const.statement Cert.KernelIdeal.κ "ten_by_ln10" .f32 0x408AF967#32 _ rfl, algebraic⟩

end Cert.Proof

end
